-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "log10_2" .f32 0x3E9A209B#32 (((Real.log 2) * (Real.log 10)⁻¹ : ℝ) : EReal)

def preserves_Reference_ReferenceIdeal : Prop :=
  IdealRules.named_const.Statement Cert.ReferenceIdeal.κ "inv_ln2" .f32 0x3FB8AA3B#32 (((Real.log 2)⁻¹ : ℝ) : EReal)
  ∧ IdealRules.named_const.Statement Cert.ReferenceIdeal.κ "inv_ln10" .f32 0x3EDE5BD9#32 (((Real.log 10)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v20_1)) (v3 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v20_1) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29_0) = v0 c
          ∧ r.2.mem ((c.tc : Thread Cert.ReferenceIdeal.nD Cert.ReferenceIdeal.τ).loc Cert.ReferenceIdeal.main_v29_1) = v1 c
          ∧ r.2.mem ((c.tc : Thread Cert.ReferenceIdeal.nD Cert.ReferenceIdeal.τ).loc Cert.ReferenceIdeal.main_v29_2) = v2 c
          ∧ r.2.mem ((c.tc : Thread Cert.ReferenceIdeal.nD Cert.ReferenceIdeal.τ).loc Cert.ReferenceIdeal.main_v29_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S176x480000 : Shape := ⟨2, ![176, 480000]⟩
abbrev S400x402 : Shape := ⟨2, ![400, 402]⟩
abbrev S402 : Shape := ⟨1, ![402]⟩
abbrev S128x201 : Shape := ⟨2, ![128, 201]⟩
abbrev S128 : Shape := ⟨1, ![128]⟩
abbrev S_ : Shape := ⟨0, ![]⟩

class Facts : Prop where
  bitsLt_bf16_f32 : FTy.bits .bf16 < FTy.bits .f32
  bcast_S_S176x480000 : S_.BroadcastsInDim S176x480000 (![] : Fin 0 → Fin S176x480000.rank)
  reducesTo_S176x480000_S_d0_1 : S176x480000.ReducesTo [0, 1] S_
  h_S_ : 0 < S_.numel

variable [Facts]

def fn {F : FTy → Type} [FloatOps F] (main_arg0 : FVec F S176x480000 .bf16) (main_arg1 : FVec F S400x402 .fp8e4m3) (main_arg2 : FVec F S402 .f32) (main_arg3 : FVec F S128x201 .fp8e4m3) (main_arg4 : FVec F S128 .f32) : IVec S_ 1 :=
  let main_v0 : FVec F S176x480000 .f32 := (extf .f32 · bitsLt_bf16_f32) main_arg0
  let main_v1 : FVec F S176x480000 .f32 := Host.absf main_v0
  let main_cst : FVec F S_ .f32 := constant S_ .f32 0x7F7F0000#32
  let main_v2 : FVec F S176x480000 .f32 := broadcastInDim S176x480000 ![] bcast_S_S176x480000 main_cst
  let main_v3 : IVec S176x480000 1 := cmpf .ole main_v1 main_v2
  let main_c : IVec S_ 1 := constantI S_ 1 1#1
  let main_v4 : IVec S_ 1 := (fun x v => Host.reduce IntOp.andi x v reducesTo_S176x480000_S_d0_1 h_S_) main_v3 main_c
  main_v4
-- ==== Kernel.lean ====
abbrev S176x480000 : Shape := ⟨2, ![176, 480000]⟩
abbrev S400x402 : Shape := ⟨2, ![400, 402]⟩
abbrev S402 : Shape := ⟨1, ![402]⟩
abbrev S128x201 : Shape := ⟨2, ![128, 201]⟩
abbrev S128 : Shape := ⟨1, ![128]⟩
abbrev S_ : Shape := ⟨0, ![]⟩
abbrev S176x1 : Shape := ⟨2, ![176, 1]⟩
abbrev S176x200 : Shape := ⟨2, ![176, 200]⟩
abbrev S176x480200 : Shape := ⟨2, ![176, 480200]⟩
abbrev S176x480400 : Shape := ⟨2, ![176, 480400]⟩
abbrev S176x494080 : Shape := ⟨2, ![176, 494080]⟩
abbrev S176x3088x160 : Shape := ⟨3, ![176, 3088, 160]⟩
abbrev S400 : Shape := ⟨1, ![400]⟩
abbrev S400x201 : Shape := ⟨2, ![400, 201]⟩
abbrev S201x400 : Shape := ⟨2, ![201, 400]⟩
abbrev S2x201 : Shape := ⟨2, ![2, 201]⟩
abbrev S2x208 : Shape := ⟨2, ![2, 208]⟩
abbrev S416x1 : Shape := ⟨2, ![416, 1]⟩
abbrev S1x400 : Shape := ⟨2, ![1, 400]⟩
abbrev S128x1 : Shape := ⟨2, ![128, 1]⟩
abbrev S176x128x3000 : Shape := ⟨3, ![176, 128, 3000]⟩
abbrev S176x3000x400 : Shape := ⟨3, ![176, 3000, 400]⟩
abbrev S176x1x3000 : Shape := ⟨3, ![176, 1, 3000]⟩
abbrev S176x8x128 : Shape := ⟨3, ![176, 8, 128]⟩
abbrev S1x3088x160 : Shape := ⟨3, ![1, 3088, 160]⟩
abbrev S1x128x3000 : Shape := ⟨3, ![1, 128, 3000]⟩
abbrev S1x3000x400 : Shape := ⟨3, ![1, 3000, 400]⟩
abbrev S1x1x3000 : Shape := ⟨3, ![1, 1, 3000]⟩
abbrev S1x8x128 : Shape := ⟨3, ![1, 8, 128]⟩
abbrev S7x400 : Shape := ⟨2, ![7, 400]⟩
abbrev S416x400 : Shape := ⟨2, ![416, 400]⟩
abbrev S128x7 : Shape := ⟨2, ![128, 7]⟩
abbrev S128x208 : Shape := ⟨2, ![128, 208]⟩
abbrev S8x128 : Shape := ⟨2, ![8, 128]⟩
abbrev S1x144x160 : Shape := ⟨3, ![1, 144, 160]⟩
abbrev S144x160 : Shape := ⟨2, ![144, 160]⟩
abbrev S128x160 : Shape := ⟨2, ![128, 160]⟩
abbrev S128x80 : Shape := ⟨2, ![128, 80]⟩
abbrev S128x400 : Shape := ⟨2, ![128, 400]⟩
abbrev S128x256 : Shape := ⟨2, ![128, 256]⟩
abbrev S1x128x400 : Shape := ⟨3, ![1, 128, 400]⟩
abbrev S128x128 : Shape := ⟨2, ![128, 128]⟩
abbrev S1x128 : Shape := ⟨2, ![1, 128]⟩
abbrev S1x1x128 : Shape := ⟨3, ![1, 1, 128]⟩
abbrev S416x128 : Shape := ⟨2, ![416, 128]⟩
abbrev S208x128 : Shape := ⟨2, ![208, 128]⟩
abbrev S1x128x128 : Shape := ⟨3, ![1, 128, 128]⟩
abbrev S16x8x128 : Shape := ⟨3, ![16, 8, 128]⟩
abbrev S56x400 : Shape := ⟨2, ![56, 400]⟩
abbrev S1x56x400 : Shape := ⟨3, ![1, 56, 400]⟩
abbrev S1x56 : Shape := ⟨2, ![1, 56]⟩
abbrev S1x1x56 : Shape := ⟨3, ![1, 1, 56]⟩
abbrev S128x56 : Shape := ⟨2, ![128, 56]⟩
abbrev S1x128x56 : Shape := ⟨3, ![1, 128, 56]⟩
abbrev S1x1 : Shape := ⟨2, ![1, 1]⟩
abbrev S128x3000 : Shape := ⟨2, ![128, 3000]⟩
abbrev S176x128x2 : Shape := ⟨3, ![176, 128, 2]⟩
abbrev S176x128x1 : Shape := ⟨3, ![176, 128, 1]⟩
abbrev S176x128x3 : Shape := ⟨3, ![176, 128, 3]⟩
abbrev S176x3000 : Shape := ⟨2, ![176, 3000]⟩

abbrev nBuf : Space → Nat
  | .hbm => 58
  | .vmem => 20
  | .smem => 1
  | _ => 0

abbrev bufTy : (tb : Table) → Fin (tcTables nBuf tb) → BufTy
  | .hbm, ⟨0, _⟩ => ⟨S176x480000, .bf16⟩
  | .hbm, ⟨1, _⟩ => ⟨S400x402, .fp8e4m3⟩
  | .hbm, ⟨2, _⟩ => ⟨S402, .f32⟩
  | .hbm, ⟨3, _⟩ => ⟨S128x201, .fp8e4m3⟩
  | .hbm, ⟨4, _⟩ => ⟨S128, .f32⟩
  | .hbm, ⟨5, _⟩ => ⟨S_, .i32⟩
  | .hbm, ⟨6, _⟩ => ⟨S176x1, .bf16⟩
  | .hbm, ⟨7, _⟩ => ⟨S176x200, .bf16⟩
  | .hbm, ⟨8, _⟩ => ⟨S176x200, .bf16⟩
  | .hbm, ⟨9, _⟩ => ⟨S176x480200, .bf16⟩
  | .hbm, ⟨10, _⟩ => ⟨S176x1, .bf16⟩
  | .hbm, ⟨11, _⟩ => ⟨S176x200, .bf16⟩
  | .hbm, ⟨12, _⟩ => ⟨S176x200, .bf16⟩
  | .hbm, ⟨13, _⟩ => ⟨S176x480400, .bf16⟩
  | .hbm, ⟨14, _⟩ => ⟨S_, .i32⟩
  | .hbm, ⟨15, _⟩ => ⟨S_, .bf16⟩
  | .hbm, ⟨16, _⟩ => ⟨S176x494080, .bf16⟩
  | .hbm, ⟨17, _⟩ => ⟨S176x3088x160, .bf16⟩
  | .hbm, ⟨18, _⟩ => ⟨S400, .f32⟩
  | .hbm, ⟨19, _⟩ => ⟨S_, .f32⟩
  | .hbm, ⟨20, _⟩ => ⟨S400, .f32⟩
  | .hbm, ⟨21, _⟩ => ⟨S400, .f32⟩
  | .hbm, ⟨22, _⟩ => ⟨S400, .f32⟩
  | .hbm, ⟨23, _⟩ => ⟨S_, .f32⟩
  | .hbm, ⟨24, _⟩ => ⟨S400, .f32⟩
  | .hbm, ⟨25, _⟩ => ⟨S400, .f32⟩
  | .hbm, ⟨26, _⟩ => ⟨S_, .f32⟩
  | .hbm, ⟨27, _⟩ => ⟨S400, .f32⟩
  | .hbm, ⟨28, _⟩ => ⟨S400, .f32⟩
  | .hbm, ⟨29, _⟩ => ⟨S400x201, .fp8e4m3⟩
  | .hbm, ⟨30, _⟩ => ⟨S201x400, .fp8e4m3⟩
  | .hbm, ⟨31, _⟩ => ⟨S400x201, .fp8e4m3⟩
  | .hbm, ⟨32, _⟩ => ⟨S201x400, .fp8e4m3⟩
  | .hbm, ⟨33, _⟩ => ⟨S2x201, .f32⟩
  | .hbm, ⟨34, _⟩ => ⟨S_, .i32⟩
  | .hbm, ⟨35, _⟩ => ⟨S_, .f32⟩
  | .hbm, ⟨36, _⟩ => ⟨S2x208, .f32⟩
  | .hbm, ⟨37, _⟩ => ⟨S416x1, .f32⟩
  | .hbm, ⟨38, _⟩ => ⟨S1x400, .f32⟩
  | .hbm, ⟨39, _⟩ => ⟨S128x1, .f32⟩
  | .hbm, ⟨40, _⟩ => ⟨S176x128x3000, .bf16⟩
  | .hbm, ⟨41, _⟩ => ⟨S176x3000x400, .fp8e4m3⟩
  | .hbm, ⟨42, _⟩ => ⟨S176x1x3000, .f32⟩
  | .hbm, ⟨43, _⟩ => ⟨S176x8x128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1x1, .f32⟩
  | .hbm, ⟨53, _⟩ => ⟨S176x128x3000, .bf16⟩
  | .hbm, ⟨54, _⟩ => ⟨S176x128x2, .bf16⟩
  | .hbm, ⟨55, _⟩ => ⟨S176x128x1, .bf16⟩
  | .hbm, ⟨56, _⟩ => ⟨S176x128x3, .bf16⟩
  | .hbm, ⟨57, _⟩ => ⟨S176x3000, .f32⟩
  | .local _ .vmem, ⟨0, _⟩ => ⟨S1x3088x160, .bf16⟩
  | .local _ .vmem, ⟨1, _⟩ => ⟨S1x3088x160, .bf16⟩
  | .local _ .vmem, ⟨2, _⟩ => ⟨S1x400, .f32⟩
  | .local _ .vmem, ⟨3, _⟩ => ⟨S201x400, .fp8e4m3⟩
  | .local _ .vmem, ⟨4, _⟩ => ⟨S201x400, .fp8e4m3⟩
  | .local _ .vmem, ⟨5, _⟩ => ⟨S416x1, .f32⟩
  | .local _ .vmem, ⟨6, _⟩ => ⟨S128x201, .fp8e4m3⟩
  | .local _ .vmem, ⟨7, _⟩ => ⟨S128x1, .f32⟩
  | .local _ .vmem, ⟨8, _⟩ => ⟨S1x128x3000, .bf16⟩
  | .local _ .vmem, ⟨9, _⟩ => ⟨S1x128x3000, .bf16⟩
  | .local _ .vmem, ⟨10, _⟩ => ⟨S1x3000x400, .fp8e4m3⟩
  | .local _ .vmem, ⟨11, _⟩ => ⟨S1x3000x400, .fp8e4m3⟩
  | .local _ .vmem, ⟨12, _⟩ => ⟨S1x1x3000, .f32⟩
  | .local _ .vmem, ⟨13, _⟩ => ⟨S1x1x3000, .f32⟩
  | .local _ .vmem, ⟨14, _⟩ => ⟨S1x8x128, .f32⟩
  | .local _ .vmem, ⟨15, _⟩ => ⟨S1x8x128, .f32⟩
  | .local _ .vmem, ⟨16, _⟩ => ⟨S1x128x3000, .bf16⟩
  | .local _ .vmem, ⟨17, _⟩ => ⟨S1x128x3000, .bf16⟩
  | .local _ .vmem, ⟨18, _⟩ => ⟨S1x128x3000, .bf16⟩
  | .local _ .vmem, ⟨19, _⟩ => ⟨S1x128x3000, .bf16⟩
  | .local _ .smem, ⟨0, _⟩ => ⟨S1x1, .f32⟩
  | _, _ => ⟨S176x480000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_call2_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v20_3 : Ref sig .tc := ⟨.hbm, 43, rfl⟩
abbrev main_cst_4 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_cst_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨1, ![176], ![false]⟩

@[reducible] def k0_t1_loop : Scf.Loop 32 :=
  let c0_i32 : BitVec 32 := 0#32
  let c23_i32 : BitVec 32 := 23#32
  let v11 : BitVec 32 := Scalar.addi c0_i32 c23_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v120 : BitVec 32 := Scalar.muli arg12 c128_i32
  v120
def k0_off1 (k0_t1 : Fin k0_t1_loop.trips) : Fin 3 → Nat :=
  let c0_49 : Index := 0#32
  let c0_i32 : BitVec 32 := 0#32
  let c1_i32 : BitVec 32 := 1#32
  let arg12 : BitVec 32 := Scf.iv c0_i32 c1_i32 k0_t1
  let c128_i32 : BitVec 32 := 128#32
  let v120 : BitVec 32 := Scalar.muli arg12 c128_i32
  let v121 : BitVec 32 := v120
  let v122 : Index := Scalar.indexCast v121
  let c0_50 : Index := 0#32
  ![0, v122.toNat, 0]
def k0_off2 (k0_t1 : Fin k0_t1_loop.trips) : Fin 3 → Nat :=
  let c0_67 : Index := 0#32
  let c0_i32 : BitVec 32 := 0#32
  let c1_i32 : BitVec 32 := 1#32
  let arg12 : BitVec 32 := Scf.iv c0_i32 c1_i32 k0_t1
  let c128_i32 : BitVec 32 := 128#32
  let v120 : BitVec 32 := Scalar.muli arg12 c128_i32
  let v121 : BitVec 32 := v120
  let v173 : Index := Scalar.indexCast v121
  let c0_68 : Index := 0#32
  ![0, v173.toNat, 0]
def k0_off3 (k0_t1 : Fin k0_t1_loop.trips) : Fin 3 → Nat :=
  let c0_69 : Index := 0#32
  let c0_70 : Index := 0#32
  let c0_i32 : BitVec 32 := 0#32
  let c1_i32 : BitVec 32 := 1#32
  let arg12 : BitVec 32 := Scf.iv c0_i32 c1_i32 k0_t1
  let c128_i32 : BitVec 32 := 128#32
  let v120 : BitVec 32 := Scalar.muli arg12 c128_i32
  let v121 : BitVec 32 := v120
  let v181 : Index := Scalar.indexCast v121
  ![0, 0, v181.toNat]
def k0_off4 (k0_t1 : Fin k0_t1_loop.trips) : Fin 3 → Nat :=
  let c0_82 : Index := 0#32
  let c0_83 : Index := 0#32
  let c0_i32 : BitVec 32 := 0#32
  let c1_i32 : BitVec 32 := 1#32
  let arg12 : BitVec 32 := Scf.iv c0_i32 c1_i32 k0_t1
  let c128_i32 : BitVec 32 := 128#32
  let v120 : BitVec 32 := Scalar.muli arg12 c128_i32
  let v121 : BitVec 32 := v120
  let v215 : Index := Scalar.indexCast v121
  ![0, 0, v215.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3088x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S201x400 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S201x400 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S416x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x201 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x3000 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3000x400 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x3000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![176], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x128x3000 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x3000 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "inv_ln2" => some (((Real.log 2)⁻¹ : ℝ) : EReal)
  | "log10_2" => some (((Real.log 2) * (Real.log 10)⁻¹ : ℝ) : EReal)
  | _ => none
-- ==== ReferenceIdeal.lean ====
variable {F : FTy → Type} [FloatOps F] [Named F]
def κ : String → Option EReal := fun
  | "inv_ln10" => some (((Real.log 10)⁻¹ : ℝ) : EReal)
  | "inv_ln2" => some (((Real.log 2)⁻¹ : ℝ) : EReal)
  | _ => none
-- ==== Reference.lean ====
abbrev S176x480000 : Shape := ⟨2, ![176, 480000]⟩
abbrev S400x402 : Shape := ⟨2, ![400, 402]⟩
abbrev S402 : Shape := ⟨1, ![402]⟩
abbrev S128x201 : Shape := ⟨2, ![128, 201]⟩
abbrev S128 : Shape := ⟨1, ![128]⟩
abbrev S_ : Shape := ⟨0, ![]⟩
abbrev S176x1 : Shape := ⟨2, ![176, 1]⟩
abbrev S176x200 : Shape := ⟨2, ![176, 200]⟩
abbrev S176x480200 : Shape := ⟨2, ![176, 480200]⟩
abbrev S176x480400 : Shape := ⟨2, ![176, 480400]⟩
abbrev S3000 : Shape := ⟨1, ![3000]⟩
abbrev S3000x1 : Shape := ⟨2, ![3000, 1]⟩
abbrev S400 : Shape := ⟨1, ![400]⟩
abbrev S1x400 : Shape := ⟨2, ![1, 400]⟩
abbrev S3000x400 : Shape := ⟨2, ![3000, 400]⟩
abbrev S3000x400x1 : Shape := ⟨3, ![3000, 400, 1]⟩
abbrev S176x3000x400 : Shape := ⟨3, ![176, 3000, 400]⟩
abbrev S1x1x400 : Shape := ⟨3, ![1, 1, 400]⟩
abbrev S1x402 : Shape := ⟨2, ![1, 402]⟩
abbrev S128x1 : Shape := ⟨2, ![128, 1]⟩
abbrev S176x128x3000 : Shape := ⟨3, ![176, 128, 3000]⟩
abbrev S176x128x3 : Shape := ⟨3, ![176, 128, 3]⟩
abbrev S176x3000 : Shape := ⟨2, ![176, 3000]⟩
abbrev S528000x400 : Shape := ⟨2, ![528000, 400]⟩
abbrev S528000 : Shape := ⟨1, ![528000]⟩
abbrev S528000x1 : Shape := ⟨2, ![528000, 1]⟩
abbrev S528000x402 : Shape := ⟨2, ![528000, 402]⟩
abbrev S528000x201 : Shape := ⟨2, ![528000, 201]⟩
abbrev S128x528000 : Shape := ⟨2, ![128, 528000]⟩
abbrev S1x128x528000 : Shape := ⟨3, ![1, 128, 528000]⟩
abbrev S1 : Shape := ⟨1, ![1]⟩
abbrev S1x1x1 : Shape := ⟨3, ![1, 1, 1]⟩
abbrev S128x176x3000 : Shape := ⟨3, ![128, 176, 3000]⟩
abbrev S176x128x2 : Shape := ⟨3, ![176, 128, 2]⟩
abbrev S176x128x1 : Shape := ⟨3, ![176, 128, 1]⟩

abbrev nBuf : Space → Nat
  | .hbm => 52
  | .vmem => 10
  | .smem => 0
  | _ => 0

abbrev bufTy : (tb : Table) → Fin (tcTables nBuf tb) → BufTy
  | .hbm, ⟨0, _⟩ => ⟨S176x480000, .bf16⟩
  | .hbm, ⟨1, _⟩ => ⟨S400x402, .fp8e4m3⟩
  | .hbm, ⟨2, _⟩ => ⟨S402, .f32⟩
  | .hbm, ⟨3, _⟩ => ⟨S128x201, .fp8e4m3⟩
  | .hbm, ⟨4, _⟩ => ⟨S128, .f32⟩
  | .hbm, ⟨5, _⟩ => ⟨S176x480000, .f32⟩
  | .hbm, ⟨6, _⟩ => ⟨S_, .i32⟩
  | .hbm, ⟨7, _⟩ => ⟨S176x1, .f32⟩
  | .hbm, ⟨8, _⟩ => ⟨S176x200, .f32⟩
  | .hbm, ⟨9, _⟩ => ⟨S176x200, .f32⟩
  | .hbm, ⟨10, _⟩ => ⟨S176x480200, .f32⟩
  | .hbm, ⟨11, _⟩ => ⟨S176x1, .f32⟩
  | .hbm, ⟨12, _⟩ => ⟨S176x200, .f32⟩
  | .hbm, ⟨13, _⟩ => ⟨S176x200, .f32⟩
  | .hbm, ⟨14, _⟩ => ⟨S176x480400, .f32⟩
  | .hbm, ⟨15, _⟩ => ⟨S3000, .i32⟩
  | .hbm, ⟨16, _⟩ => ⟨S3000x1, .i32⟩
  | .hbm, ⟨17, _⟩ => ⟨S_, .i32⟩
  | .hbm, ⟨18, _⟩ => ⟨S3000x1, .i32⟩
  | .hbm, ⟨19, _⟩ => ⟨S3000x1, .i32⟩
  | .hbm, ⟨20, _⟩ => ⟨S400, .i32⟩
  | .hbm, ⟨21, _⟩ => ⟨S1x400, .i32⟩
  | .hbm, ⟨22, _⟩ => ⟨S3000x400, .i32⟩
  | .hbm, ⟨23, _⟩ => ⟨S3000x400, .i32⟩
  | .hbm, ⟨24, _⟩ => ⟨S3000x400, .i32⟩
  | .hbm, ⟨25, _⟩ => ⟨S_, .i32⟩
  | .hbm, ⟨26, _⟩ => ⟨S3000x400, .i32⟩
  | .hbm, ⟨27, _⟩ => ⟨S3000x400, .i1⟩
  | .hbm, ⟨28, _⟩ => ⟨S_, .i32⟩
  | .hbm, ⟨29, _⟩ => ⟨S3000x400, .i32⟩
  | .hbm, ⟨30, _⟩ => ⟨S3000x400, .i32⟩
  | .hbm, ⟨31, _⟩ => ⟨S3000x400, .i32⟩
  | .hbm, ⟨32, _⟩ => ⟨S3000x400x1, .i32⟩
  | .hbm, ⟨33, _⟩ => ⟨S176x3000x400, .f32⟩
  | .hbm, ⟨34, _⟩ => ⟨S400, .f32⟩
  | .hbm, ⟨35, _⟩ => ⟨S_, .f32⟩
  | .hbm, ⟨36, _⟩ => ⟨S400, .f32⟩
  | .hbm, ⟨37, _⟩ => ⟨S400, .f32⟩
  | .hbm, ⟨38, _⟩ => ⟨S400, .f32⟩
  | .hbm, ⟨39, _⟩ => ⟨S_, .f32⟩
  | .hbm, ⟨40, _⟩ => ⟨S400, .f32⟩
  | .hbm, ⟨41, _⟩ => ⟨S400, .f32⟩
  | .hbm, ⟨42, _⟩ => ⟨S_, .f32⟩
  | .hbm, ⟨43, _⟩ => ⟨S400, .f32⟩
  | .hbm, ⟨44, _⟩ => ⟨S400, .f32⟩
  | .hbm, ⟨45, _⟩ => ⟨S1x1x400, .f32⟩
  | .hbm, ⟨46, _⟩ => ⟨S1x402, .f32⟩
  | .hbm, ⟨47, _⟩ => ⟨S128x1, .f32⟩
  | .hbm, ⟨48, _⟩ => ⟨S176x128x3000, .bf16⟩
  | .hbm, ⟨49, _⟩ => ⟨S176x128x3, .bf16⟩
  | .hbm, ⟨50, _⟩ => ⟨S176x3000x400, .fp8e4m3⟩
  | .hbm, ⟨51, _⟩ => ⟨S176x3000, .f32⟩
  | .local _ .vmem, ⟨0, _⟩ => ⟨S176x3000x400, .f32⟩
  | .local _ .vmem, ⟨1, _⟩ => ⟨S1x1x400, .f32⟩
  | .local _ .vmem, ⟨2, _⟩ => ⟨S400x402, .fp8e4m3⟩
  | .local _ .vmem, ⟨3, _⟩ => ⟨S1x402, .f32⟩
  | .local _ .vmem, ⟨4, _⟩ => ⟨S128x201, .fp8e4m3⟩
  | .local _ .vmem, ⟨5, _⟩ => ⟨S128x1, .f32⟩
  | .local _ .vmem, ⟨6, _⟩ => ⟨S176x128x3000, .bf16⟩
  | .local _ .vmem, ⟨7, _⟩ => ⟨S176x128x3, .bf16⟩
  | .local _ .vmem, ⟨8, _⟩ => ⟨S176x3000x400, .fp8e4m3⟩
  | .local _ .vmem, ⟨9, _⟩ => ⟨S176x3000, .f32⟩
  | _, _ => ⟨S176x480000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev main_v29_3 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S176x3000x400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S400x402 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x402 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x201 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S176x128x3000 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S176x128x3 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S176x3000x400 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S176x3000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRun.lean ====
module

public import proofs.«01_k».proof.Proof.Gen.KernelIdeal.Frame
public import Idealize.ShloMosaic.Lib.Claim

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

set_option backward.isDefEq.respectTransparency.types false in
/-- The kernel's run: every weakly fair execution terminates without a fault, the four results hold what the
    segments of `main` leave in them (the contents `W11` at the end of the last segment), and the arguments are
    unchanged. -/
theorem run : θ_run defs (onTc (τ := τ) (main (F := Ideal))) ⟨m, fun _ => 0, ρ⟩ (fun r => ∀ c : Dev nD,
      r.2.mem ((c.tc : Thread nD τ).loc main_v26) = W11 m ρ c (Proc.devRef .tc main_v26)
      ∧ r.2.mem ((c.tc : Thread nD τ).loc main_v29) = W11 m ρ c (Proc.devRef .tc main_v29)
      ∧ r.2.mem ((c.tc : Thread nD τ).loc main_v20_1) = W11 m ρ c (Proc.devRef .tc main_v20_1)
      ∧ r.2.mem ((c.tc : Thread nD τ).loc main_v30) = W11 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz c =>
      ⟨h c _ (mem_uc main_v26 (by decide)), h c _ (mem_uc main_v29 (by decide)),
       h c _ (mem_uc main_v20_1 (by decide)), h c _ (mem_uc main_v30 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c)⟩)

end Cert.KernelIdeal.Value

end
-- ==== Proof.RefRun.lean ====
module

public import proofs.«01_k».proof.Proof.Gen.ReferenceIdeal.Frame
public import Idealize.ShloMosaic.Lib.Claim

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The reference's run: every weakly fair execution terminates without a fault, the four results hold what the one
    launch leaves in its output arrays, and the arguments are unchanged. -/
theorem run : θ_run defs (onTc (τ := τ) (main (F := Ideal))) ⟨m, fun _ => 0, ρ⟩ (fun r => ∀ c : Dev nD,
      r.2.mem ((c.tc : Thread nD τ).loc main_v29_0) = (dats m 0 c).arrAt 6 cfg0.N
      ∧ r.2.mem ((c.tc : Thread nD τ).loc main_v29_1) = (dats m 0 c).arrAt 7 cfg0.N
      ∧ r.2.mem ((c.tc : Thread nD τ).loc main_v29_2) = (dats m 0 c).arrAt 8 cfg0.N
      ∧ r.2.mem ((c.tc : Thread nD τ).loc main_v29_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (θ_run_and (run_main m ρ) (unchanged m ρ)) ?_
  rintro r ⟨h, hu⟩ c
  have h6 := (h c).1 6
  have h7 := (h c).1 7
  have h8 := (h c).1 8
  have h9 := (h c).1 9
  have hc := hu c
  clear h hu
  exact ⟨h6, h7, h8, h9, hc⟩

end Cert.ReferenceIdeal.Value

end
-- ==== Proof.Rows.lean ====
module

public import proofs.«01_k».proof.Proof.Gen.KernelIdeal.Skeleton
public import Idealize.ShloMosaic.Lib.Pointwise

@[expose] public section

set_option maxRecDepth 16384

noncomputable section

/-! What the log-mel kernel computes for one frame, as plain functions of the frame's 400 windowed samples, and the payloads of the kernel's
    body read at an index as those functions. -/

namespace Cert.KernelIdeal.Value

open Cert.KernelIdeal Cert.KernelIdeal.Gen
open Idealize.ShloMosaic Idealize.ShloMosaic.TcCoe Idealize.SL.Sem

/-- The scale before rounding to a power of two: the largest magnitude of the frame times the constant near 1/448. -/
def rowS (v : Fin 400 → EReal) : EReal :=
  Finset.fold max (Ideal.ofBits FTy.f32 0xFF800000#32) (fun x => FloatOps.absf (F := Ideal) (φ := .f32) (v x)) Finset.univ * Ideal.ofBits FTy.f32 0x3B124925#32

/-- The number of powers of two (patterns `n <<< 23`) that do not exceed `s`. -/
def cntS (s : EReal) : BitVec 32 :=
  Finset.fold IntOp.addi (0#32) (fun x : Fin 256 => BitVec.setWidth 32 (BitVec.ofBool (decide
    (Ideal.ofBits FTy.f32 (IntOp.shli ArithUnit.vector (BitVec.ofNat 32 x.val) 23#32) ≤ s)))) Finset.univ

/-- The exponent from the count: zero when the biased exponent is zero. -/
def expC (n : BitVec 32) : BitVec 32 :=
  Scalar.select (IntOp.cmpi CmpIPredicate.eq (IntOp.subi n 1#32) 0#32) (0#32) (IntOp.subi (IntOp.subi n 1#32) 126#32)

/-- The reciprocal power of two, assembled from its bits. -/
def invC (n : BitVec 32) : EReal := Ideal.ofBits FTy.f32 (IntOp.shli ArithUnit.vector (IntOp.subi 127#32 (expC n)) 23#32)

/-- The power of two, assembled from its bits. -/
def sclC (n : BitVec 32) : EReal := Ideal.ofBits FTy.f32 (IntOp.shli ArithUnit.vector (IntOp.addi 127#32 (expC n)) 23#32)

/-- The quantised sample. -/
def rowCode (v : Fin 400 → EReal) (n : Fin 400) : EReal :=
  min (Ideal.ofBits FTy.f32 0x43E00000#32) (max (Ideal.ofBits FTy.f32 0xC3E00000#32) (v n * invC (cntS (rowS v))))

/-- The frame's scale. -/
def rowScl (v : Fin 400 → EReal) : EReal := sclC (cntS (rowS v))

/-- The natural logarithm of the floored mel energy `g` of a frame. -/
def rowLog (w1 w3 : Fin 201 → Fin 400 → EReal) (mel : Fin 128 → Fin 201 → EReal) (ws1 ws3 : Fin 201 → EReal) (ms : Fin 128 → EReal)
    (v : Fin 400 → EReal) (g : Fin 128) : EReal :=
  Ideal.log (max ((∑ f : Fin 201, mel g f *
      ((∑ k, w1 f k * rowCode v k) * rowScl v * ws1 f * ((∑ k, w1 f k * rowCode v k) * rowScl v * ws1 f)
        + (∑ k, w3 f k * rowCode v k) * rowScl v * ws3 f * ((∑ k, w3 f k * rowCode v k) * rowScl v * ws3 f))) * ms g)
    (Ideal.ofBits FTy.f32 0x2EDBE6FF#32))

/-- The named constant `1 / ln 2` as the program writes it. -/
abbrev invLn2 : Ideal .f32 := Named.named κ "inv_ln2" 0x3FB8AA3B#32

/-- The named constant `log10 2` as the program writes it. -/
abbrev log10_2 : Ideal .f32 := Named.named κ "log10_2" 0x3E9A209B#32

/-- A windowed frame taken from the hop array: sample `n` of frame `t` is sample `n % 160` of hop `t + n / 160`. -/
def frameOf (x0 : Vec Ideal S1x3088x160 .bf16) (x1 : Vec Ideal S1x400 .f32) (t : Fin 3072) : Fin 400 → EReal := fun n =>
  x0 (ix3 0 ⟨t.val + n.val / 160, by omega⟩ ⟨n.val % 160, by omega⟩) * x1 (ix2 0 n)

theorem cat3 (h : Vec Ideal S1x144x160 .bf16) (win : Vec Ideal S1x400 .f32) (r : Fin 128) (n : Fin 400) :
    k0_pay2 h win (ix2 r n) = h (ix3 0 ⟨r.val + n.val / 160, by omega⟩ ⟨n.val % 160, by omega⟩) * win (ix2 0 n) := by
  pointwise [k0_pay2]
  congr 1
  split_ifs with h1 h2 <;> congr 1 <;> idx_ext <;> simp <;> omega

theorem cat3_tail (h : Vec Ideal S1x144x160 .bf16) (win : Vec Ideal S1x400 .f32) (r : Fin 128) (n : Fin 400) :
    k0_pay17 h win (ix2 r n) = h (ix3 0 ⟨r.val + n.val / 160, by omega⟩ ⟨n.val % 160, by omega⟩) * win (ix2 0 n) := cat3 h win r n

theorem pay4_at (h : Vec Ideal S1x144x160 .bf16) (win : Vec Ideal S1x400 .f32) (r : Fin 128) :
    k0_pay4 h win (ix2 r 0) = invC (cntS (rowS fun n => k0_pay2 h win (ix2 r n))) := by
  pointwise [k0_pay4, k0_pay3, invC, expC, cntS, rowS]

theorem pay5_at (h : Vec Ideal S1x144x160 .bf16) (win : Vec Ideal S1x400 .f32) (r : Fin 128) :
    k0_pay5 h win (ix2 r 0) = IntOp.addi 127#32 (expC (cntS (rowS fun n => k0_pay2 h win (ix2 r n)))) := by
  pointwise [k0_pay5, k0_pay3, expC, cntS, rowS]

theorem pay7_at (h : Vec Ideal S1x144x160 .bf16) (win : Vec Ideal S1x400 .f32) (r : Fin 128) (n : Fin 400) :
    k0_pay7 (k0_pay2 h win) (k0_pay4 h win) (ix3 0 r n) = rowCode (fun n => k0_pay2 h win (ix2 r n)) n := by
  have := pay4_at h win r
  pointwise [k0_pay7, k0_pay6, rowCode]
  rw [this]

theorem pay9_at (h : Vec Ideal S1x144x160 .bf16) (win : Vec Ideal S1x400 .f32) (r : Fin 128) :
    k0_pay9 (F := Ideal) (k0_pay5 h win) (ix3 0 0 r) = rowScl (fun n => k0_pay2 h win (ix2 r n)) := by
  have := pay5_at h win r
  pointwise [k0_pay9, k0_pay8, rowScl, sclC]
  rw [this]

theorem pay18_at (h : Vec Ideal S1x144x160 .bf16) (win : Vec Ideal S1x400 .f32) (r : Fin 128) :
    k0_pay18 h win (ix1 r) = cntS (rowS fun n => k0_pay17 h win (ix2 r n)) := by
  pointwise [k0_pay18, cntS, rowS]

theorem pay20_at (v : FVec Ideal S128x400 .f32) (m : IVec S128 32) (r : Fin 128) (n : Fin 400) :
    k0_pay20 v m (ix2 r n) = min (Ideal.ofBits FTy.f32 0x43E00000#32) (max (Ideal.ofBits FTy.f32 0xC3E00000#32) (v (ix2 r n) * invC (m (ix1 r)))) := by
  pointwise [k0_pay20, k0_pay19, invC, expC]

theorem pay22_at (m : IVec S128 32) (r : Fin 128) : k0_pay22 (F := Ideal) m (ix2 0 r) = sclC (m (ix1 r)) := by
  pointwise [k0_pay22, k0_pay19, sclC, expC]

theorem pay21_at (h : Vec Ideal S1x144x160 .bf16) (win : Vec Ideal S1x400 .f32) (r : Fin 56) (n : Fin 400) :
    k0_pay21 (k0_pay17 h win) (k0_pay18 h win) (ix3 0 r n) = rowCode (fun n => k0_pay17 h win (ix2 ⟨r.val, by omega⟩ n)) n := by
  have := pay18_at h win ⟨r.val, by omega⟩
  pointwise [k0_pay21]
  rw [pay20_at, this]
  rfl

theorem pay23_at (h : Vec Ideal S1x144x160 .bf16) (win : Vec Ideal S1x400 .f32) (r : Fin 56) :
    k0_pay23 (F := Ideal) (k0_pay18 h win) (ix3 0 0 r) = rowScl (fun n => k0_pay17 h win (ix2 ⟨r.val, by omega⟩ n)) := by
  have := pay18_at h win ⟨r.val, by omega⟩
  pointwise [k0_pay23]
  rw [pay22_at, this]
  rfl

/-- The mel sum over the 208 padded rows is the sum over the 201 frequencies. -/
theorem mel_sum (F : Fin 208 → EReal) (G : Fin 201 → EReal) (h1 : ∀ f : Fin 201, F ⟨f.val, by omega⟩ = G f)
    (h2 : ∀ f : Fin 208, 201 ≤ f.val → F f = 0) : ∑ f, F f = ∑ f, G f := by
  rw [show (∑ f, F f) = _ from Fin.sum_univ_add (a := 201) (b := 7) F]
  rw [show (∑ i : Fin 7, F (Fin.natAdd 201 i)) = 0 from Finset.sum_eq_zero fun i _ => h2 _ (by simp), add_zero]
  exact Finset.sum_congr rfl fun f _ => h1 f

theorem zero_fp8 : Ideal.ofBits FTy.fp8e4m3 0#8 = 0 := by simp [Ideal.ofBits, Ideal.e4m3fn, Ideal.ieee]
theorem zero_bf16 : Ideal.ofBits FTy.bf16 0#16 = 0 := by simp [Ideal.ofBits, Ideal.ieee]

theorem w_lo (v1 v3 : Vec Ideal S201x400 .fp8e4m3) (f : Fin 201) (n : Fin 400) : k0_pay11 (F := Ideal) v1 v3 (ix2 ⟨f.val, by omega⟩ n) = v1 (ix2 f n) := by
  pointwise [k0_pay11]

theorem w_hi (v1 v3 : Vec Ideal S201x400 .fp8e4m3) (f : Fin 201) (n : Fin 400) :
    k0_pay11 (F := Ideal) v1 v3 (ix2 ⟨208 + f.val, by omega⟩ n) = v3 (ix2 f n) := by
  pointwise [k0_pay11]
  rw [dif_neg (by omega), dif_neg (by omega), dif_pos (by omega)]
  congr 1
  idx_ext

theorem mel_lo (v6 : Vec Ideal S128x201 .fp8e4m3) (g : Fin 128) (f : Fin 201) : k0_pay12 (F := Ideal) v6 (ix2 g ⟨f.val, by omega⟩) = v6 (ix2 g f) := by
  pointwise [k0_pay12]

theorem mel_hi (v6 : Vec Ideal S128x201 .fp8e4m3) (g : Fin 128) (f : Fin 208) (hf : 201 ≤ f.val) : k0_pay12 (F := Ideal) v6 (ix2 g f) = 0 := by
  pointwise [k0_pay12]
  exact dif_neg (by omega)

/-- The log-mel tile, before its conversion to base ten, holds the logarithm of each frame's mel energy. -/
theorem pay10_at (v1 v3 : Vec Ideal S201x400 .fp8e4m3) (v6 : Vec Ideal S128x201 .fp8e4m3) (h : Vec Ideal S1x144x160 .bf16) (win : Vec Ideal S1x400 .f32)
    (ws : Vec Ideal S416x1 .f32) (ms : Vec Ideal S128x1 .f32) (g r : Fin 128) :
    k0_pay10 (k0_pay11 v1 v3) (k0_pay12 v6) (k0_pay2 h win) (k0_pay4 h win) (k0_pay5 h win) ws ms (ix2 g r)
      = rowLog (fun f k => v1 (ix2 f k)) (fun f k => v3 (ix2 f k)) (fun g f => v6 (ix2 g f)) (fun f => ws (ix2 ⟨f.val, by omega⟩ 0))
          (fun f => ws (ix2 ⟨208 + f.val, by omega⟩ 0)) (fun g => ms (ix2 g 0)) (fun n => k0_pay2 h win (ix2 r n)) g := by
  have h4 := pay4_at h win r
  have h5 := pay5_at h win r
  pointwise [k0_pay10, k0_pay8, k0_pay6]
  rw [h4, h5, rowLog]
  congr 3
  refine mel_sum _ _ (fun f => ?_) (fun f hf => ?_)
  · simp only [mel_lo, w_lo, w_hi]
    rfl
  · rw [show k0_pay12 (F := Ideal) v6 (ix2 g ⟨f.val, f.isLt⟩) = 0 from mel_hi v6 g f hf, zero_mul]

theorem pay24_at (w : FVec Ideal S416x400 .fp8e4m3) (h : Vec Ideal S1x144x160 .bf16) (win : Vec Ideal S1x400 .f32) (f : Fin 416) (r : Fin 128) :
    k0_pay24 w (k0_pay17 h win) (k0_pay18 h win) (ix2 f r)
      = (∑ k, w (ix2 f k) * rowCode (fun n => k0_pay17 h win (ix2 r n)) k) * rowScl (fun n => k0_pay17 h win (ix2 r n)) := by
  have h4 := pay18_at h win r
  have h5 := fun n => pay20_at (k0_pay17 h win) (k0_pay18 h win) r n
  have h6 := pay22_at (k0_pay18 h win) r
  pointwise [k0_pay24]
  simp only [h5, h6, h4]
  rfl

theorem pay25_at (v1 v3 : Vec Ideal S201x400 .fp8e4m3) (v6 : Vec Ideal S128x201 .fp8e4m3) (h : Vec Ideal S1x144x160 .bf16) (win : Vec Ideal S1x400 .f32)
    (ws : Vec Ideal S416x1 .f32) (ms : Vec Ideal S128x1 .f32) (g r : Fin 128) :
    k0_pay25 (k0_pay12 v6) (k0_pay24 (k0_pay11 v1 v3) (k0_pay17 h win) (k0_pay18 h win)) ws ms (ix2 g r)
      = rowLog (fun f k => v1 (ix2 f k)) (fun f k => v3 (ix2 f k)) (fun g f => v6 (ix2 g f)) (fun f => ws (ix2 ⟨f.val, by omega⟩ 0))
          (fun f => ws (ix2 ⟨208 + f.val, by omega⟩ 0)) (fun g => ms (ix2 g 0)) (fun n => k0_pay17 h win (ix2 r n)) g * invLn2 * log10_2 := by
  have h5 := fun f => pay24_at (k0_pay11 v1 v3) h win f r
  generalize k0_pay24 (k0_pay11 v1 v3) (k0_pay17 h win) (k0_pay18 h win) = s at h5 ⊢
  pointwise [k0_pay25]
  simp only [h5]
  rw [rowLog]
  congr 5
  refine mel_sum _ _ (fun f => ?_) (fun f hf => ?_)
  · simp only [mel_lo, w_lo, w_hi]
  · rw [show k0_pay12 (F := Ideal) v6 (ix2 g ⟨f.val, f.isLt⟩) = 0 from mel_hi v6 g f hf, zero_mul]

/-- The stored value of the log-mel result, and of its tail. -/
theorem pay15_at (l : FVec Ideal S128x128 .f32) (g r : Fin 128) :
    k0_pay15 (F := Ideal) l invLn2 (ix3 0 g r) = Ideal.div (l (ix2 g r) * invLn2 * log10_2 + Ideal.ofBits FTy.f32 0x40800000#32) (Ideal.ofBits FTy.f32 0x40800000#32) := by
  pointwise [k0_pay15, k0_pay14]

theorem pay26_at (m : FVec Ideal S128x208 .bf16) (s : FVec Ideal S416x128 .f32) (ws : Vec Ideal S416x1 .f32) (ms : Vec Ideal S128x1 .f32) (g : Fin 128) (r : Fin 56) :
    k0_pay26 (F := Ideal) m s ws ms (ix3 0 g r)
      = Ideal.div (k0_pay25 m s ws ms (ix2 g ⟨r.val, by omega⟩) + Ideal.ofBits FTy.f32 0x40800000#32) (Ideal.ofBits FTy.f32 0x40800000#32) := by
  pointwise [k0_pay26]

theorem negInf : Ideal.ofBits FTy.f32 0xFF800000#32 = ⊥ := by simp [Ideal.ofBits, Ideal.ieee]

/-- Comparison of a lane's number with a small bound, as the comparison of the numbers. -/
theorem lane_slt (q : Fin 128) (m : Nat) (hm : m ≤ 128) : IntOp.cmpi CmpIPredicate.slt (BitVec.ofNat 32 q.val) (BitVec.ofNat 32 m) = BitVec.ofBool (decide (q.val < m)) := by
  have h1 : (BitVec.ofNat 32 q.val).toInt = q.val := by
    rw [BitVec.toInt_eq_toNat_of_lt] <;> simp [BitVec.toNat_ofNat] <;> omega
  have h2 : (BitVec.ofNat 32 m).toInt = m := by
    rw [BitVec.toInt_eq_toNat_of_lt] <;> simp [BitVec.toNat_ofNat] <;> omega
  simp [IntOp.cmpi, BitVec.slt, h1, h2]

/-- The running maximum after a tile is at most `z` when it was before and every entry of the tile is. -/
theorem pay16_le (acc : FVec Ideal S8x128 .f32) (l : FVec Ideal S128x128 .f32) (a : Fin 8) (q : Fin 128) (z : EReal) :
    k0_pay16 (F := Ideal) acc l invLn2 (ix2 a q) ≤ z ↔ acc (ix2 a q) ≤ z ∧ ∀ x : Fin 16, l (ix2 ⟨x.val * 8 + a.val, by omega⟩ q) * invLn2 * log10_2 ≤ z := by
  have h : k0_pay16 (F := Ideal) acc l invLn2 (ix2 a q) = max (acc (ix2 a q)) (Finset.fold max (⊥ : EReal)
      (fun x : Fin 16 => (l (ix2 ⟨x.val * 8 + a.val, by omega⟩ q) * invLn2 * log10_2 : EReal)) Finset.univ) := by
    pointwise [k0_pay16, k0_pay14]
    rw [negInf, lane_slt q 128 le_rfl]
    simp only [q.isLt, decide_true]
    rfl
  rw [h, max_le_iff, Finset.fold_max_le]
  simp

theorem pay27_le (m : FVec Ideal S128x208 .bf16) (acc : FVec Ideal S8x128 .f32) (s : FVec Ideal S416x128 .f32) (ws : Vec Ideal S416x1 .f32) (ms : Vec Ideal S128x1 .f32)
    (a : Fin 8) (q : Fin 128) (z : EReal) :
    k0_pay27 (F := Ideal) m acc s ws ms (ix2 a q) ≤ z ↔ acc (ix2 a q) ≤ z ∧ ∀ x : Fin 16, q.val < 56 → k0_pay25 m s ws ms (ix2 ⟨x.val * 8 + a.val, by omega⟩ q) ≤ z := by
  have h : k0_pay27 (F := Ideal) m acc s ws ms (ix2 a q) = max (acc (ix2 a q)) (Finset.fold max (⊥ : EReal)
      (fun x : Fin 16 => (if q.val < 56 then k0_pay25 m s ws ms (ix2 ⟨x.val * 8 + a.val, by omega⟩ q) else ⊥ : EReal)) Finset.univ) := by
    pointwise [k0_pay27]
    rw [negInf, lane_slt q 56 (by omega)]
    by_cases hq : q.val < 56
    · simp only [hq, decide_true, if_true]
      rfl
    · simp only [hq, decide_false, if_false]
      rfl
  rw [h, max_le_iff, Finset.fold_max_le]
  by_cases hq : q.val < 56 <;> simp [hq]

theorem pay13_at (a : Fin 8) (q : Fin 128) :
    k0_pay13 (F := Ideal) (ix2 a q) = ⊥ := by
  pointwise [k0_pay13]
  exact negInf

theorem pay1_at (v) (a : Fin 8) (q : Fin 128) :
    k0_pay1 (F := Ideal) v (ix3 0 a q) = v (ix2 a q) := by
  pointwise [k0_pay1]

end Cert.KernelIdeal.Value
-- ==== Proof.Trip.lean ====
module

public import proofs.«01_k».proof.Proof.Gen.KernelIdeal.Loops
public import Idealize.ShloMosaic.Lib.Pipeline.ValueKit
public import proofs.«01_k».proof.Proof.Rows

@[expose] public section

set_option maxRecDepth 16384

noncomputable section

namespace Cert.KernelIdeal.Value

open Cert.KernelIdeal Cert.KernelIdeal.Gen
open Idealize.ShloMosaic Idealize.ShloMosaic.TcCoe Idealize.SL.Sem

/-- The log-mel tile of a trip before its conversion to base ten: the natural logarithms of the
    floored mel energies. -/
abbrev tileLog (w : FVec Ideal S416x400 .fp8e4m3) (mel : FVec Ideal S128x208 .bf16) (h : Vec Ideal S1x144x160 .bf16) (win : Vec Ideal S1x400 .f32)
    (ws : Vec Ideal S416x1 .f32) (ms : Vec Ideal S128x1 .f32) : FVec Ideal S128x128 .f32 :=
  k0_pay10 w mel (k0_pay2 h win) (k0_pay4 h win) (k0_pay5 h win) ws ms

section
variable (𝒱 : Variants) (c : Dev nD) (bd : Option 𝒱.V) (i : grid0.Coords) (arg1 : Memref sig .tc .vmem S1x3088x160 .bf16) (harg1 : arg1.IsWhole) (arg2 : Memref sig .tc .vmem S1x400 .f32) (harg2 : arg2.IsWhole) (arg3 : Memref sig .tc .vmem S201x400 .fp8e4m3) (harg3 : arg3.IsWhole) (arg4 : Memref sig .tc .vmem S201x400 .fp8e4m3) (harg4 : arg4.IsWhole) (arg5 : Memref sig .tc .vmem S416x1 .f32) (harg5 : arg5.IsWhole) (arg6 : Memref sig .tc .vmem S128x201 .fp8e4m3) (harg6 : arg6.IsWhole) (arg7 : Memref sig .tc .vmem S128x1 .f32) (harg7 : arg7.IsWhole) (arg8 : Memref sig .tc .vmem S1x128x3000 .bf16) (harg8 : arg8.IsWhole) (arg9 : Memref sig .tc .vmem S1x3000x400 .fp8e4m3) (harg9 : arg9.IsWhole) (arg10 : Memref sig .tc .vmem S1x1x3000 .f32) (harg10 : arg10.IsWhole) (arg11 : Memref sig .tc .vmem S1x8x128 .f32) (harg11 : arg11.IsWhole)
  (v1 : Vec Ideal S201x400 .fp8e4m3) (v3 : Vec Ideal S201x400 .fp8e4m3) (v6 : Vec Ideal S128x201 .fp8e4m3)
  (x0 : Vec Ideal S1x3088x160 .bf16) (x1 : Vec Ideal S1x400 .f32) (x4 : Vec Ideal S416x1 .f32) (x6 : Vec Ideal S128x1 .f32)
  (k : Fin k0_t1_loop.trips) (acc : FVec Ideal S8x128 .f32)

theorem hz2 : (![0, 0] : Fin 2 → Nat) = fun _ => 0 := funext fun a => by fin_cases a <;> rfl

/-- The hops a trip reads: 144 rows from row `128 k` on. -/
abbrev hopsAt (x : Vec Ideal S1x3088x160 .bf16) (k : Fin k0_t1_loop.trips) : Vec Ideal S1x144x160 .bf16 :=
  View.ld (Val := Elt Ideal) (S := S1x3088x160) x (Rect.unit (s := S1x3088x160) (k0_off1 k) S1x144x160.size (k0_off1_inb k))

theorem tripR_eq :
    tripR_k0_t1 (F := Ideal) 𝒱 c bd i arg1 harg1 arg2 harg2 arg3 harg3 arg4 harg4 arg5 harg5 arg6 harg6 arg7 harg7 arg8 harg8 arg9 harg9 arg10 harg10 arg11 harg11 v1 v3 v6
      (harg1.unread x0) (harg2.unread x1) (harg5.unread x4) (harg7.unread x6) k acc = k0_pay16 acc (tileLog (k0_pay11 v1 v3) (k0_pay12 v6) (hopsAt x0 k) x1 x4 x6) invLn2 := by
  unfold tripR_k0_t1 trip_k0_t1
  dsimp only
  show k0_pay16 acc (tileLog (k0_pay11 v1 v3) (k0_pay12 v6) (View.readAt (Elt Ideal) arg1.view (Rect.unit (s := S1x3088x160) (k0_off1 k) S1x144x160.size (k0_off1_inb k)).toLoadRect (harg1.unread x0)) (View.readAt (Elt Ideal) arg2.view (Rect.unit (s := S1x400) ![0, 0] S1x400.size inb_S1x400_S1x400_0_0).toLoadRect (harg2.unread x1)) (View.readAt (Elt Ideal) arg5.view (Rect.unit (s := S416x1) ![0, 0] S416x1.size inb_S416x1_S416x1_0_0).toLoadRect (harg5.unread x4)) (View.readAt (Elt Ideal) arg7.view (Rect.unit (s := S128x1) ![0, 0] S128x1.size inb_S128x1_S128x1_0_0).toLoadRect (harg7.unread x6))) invLn2 = _
  simp only [View.readAt_eq_ld, harg1.read_unread, harg2.read_unread, harg5.read_unread, harg7.read_unread]
  rw [View.ld_unit_zero (S := S1x400) hz2, View.ld_unit_zero (S := S416x1) hz2, View.ld_unit_zero (S := S128x1) hz2]

theorem tripL_eq :
    tripL_k0_t1 (F := Ideal) 𝒱 c bd i arg1 harg1 arg2 harg2 arg3 harg3 arg4 harg4 arg5 harg5 arg6 harg6 arg7 harg7 arg8 harg8 arg9 harg9 arg10 harg10 arg11 harg11 v1 v3 v6
      (harg1.unread x0) (harg2.unread x1) (harg5.unread x4) (harg7.unread x6) k acc =
      ([⟨Rect.unit (s := S1x128x3000) (k0_off4 k) S1x128x128.size (k0_off4_inb k), k0_pay15 (tileLog (k0_pay11 v1 v3) (k0_pay12 v6) (hopsAt x0 k) x1 x4 x6) invLn2⟩],
       [⟨Rect.unit (s := S1x3000x400) (k0_off2 k) S1x128x400.size (k0_off2_inb k), k0_pay7 (k0_pay2 (hopsAt x0 k) x1) (k0_pay4 (hopsAt x0 k) x1)⟩],
       [⟨Rect.unit (s := S1x1x3000) (k0_off3 k) S1x1x128.size (k0_off3_inb k), k0_pay9 (F := Ideal) (k0_pay5 (hopsAt x0 k) x1)⟩]) := by
  unfold tripL_k0_t1 trip_k0_t1
  dsimp only
  show (([⟨Rect.unit (s := S1x128x3000) (k0_off4 k) S1x128x128.size (k0_off4_inb k), k0_pay15 (tileLog (k0_pay11 v1 v3) (k0_pay12 v6) (View.readAt (Elt Ideal) arg1.view (Rect.unit (s := S1x3088x160) (k0_off1 k) S1x144x160.size (k0_off1_inb k)).toLoadRect (harg1.unread x0)) (View.readAt (Elt Ideal) arg2.view (Rect.unit (s := S1x400) ![0, 0] S1x400.size inb_S1x400_S1x400_0_0).toLoadRect (harg2.unread x1)) (View.readAt (Elt Ideal) arg5.view (Rect.unit (s := S416x1) ![0, 0] S416x1.size inb_S416x1_S416x1_0_0).toLoadRect (harg5.unread x4)) (View.readAt (Elt Ideal) arg7.view (Rect.unit (s := S128x1) ![0, 0] S128x1.size inb_S128x1_S128x1_0_0).toLoadRect (harg7.unread x6))) invLn2⟩],
       [⟨Rect.unit (s := S1x3000x400) (k0_off2 k) S1x128x400.size (k0_off2_inb k), k0_pay7 (k0_pay2 (View.readAt (Elt Ideal) arg1.view (Rect.unit (s := S1x3088x160) (k0_off1 k) S1x144x160.size (k0_off1_inb k)).toLoadRect (harg1.unread x0)) (View.readAt (Elt Ideal) arg2.view (Rect.unit (s := S1x400) ![0, 0] S1x400.size inb_S1x400_S1x400_0_0).toLoadRect (harg2.unread x1))) (k0_pay4 (View.readAt (Elt Ideal) arg1.view (Rect.unit (s := S1x3088x160) (k0_off1 k) S1x144x160.size (k0_off1_inb k)).toLoadRect (harg1.unread x0)) (View.readAt (Elt Ideal) arg2.view (Rect.unit (s := S1x400) ![0, 0] S1x400.size inb_S1x400_S1x400_0_0).toLoadRect (harg2.unread x1)))⟩],
       [⟨Rect.unit (s := S1x1x3000) (k0_off3 k) S1x1x128.size (k0_off3_inb k), k0_pay9 (F := Ideal) (k0_pay5 (View.readAt (Elt Ideal) arg1.view (Rect.unit (s := S1x3088x160) (k0_off1 k) S1x144x160.size (k0_off1_inb k)).toLoadRect (harg1.unread x0)) (View.readAt (Elt Ideal) arg2.view (Rect.unit (s := S1x400) ![0, 0] S1x400.size inb_S1x400_S1x400_0_0).toLoadRect (harg2.unread x1)))⟩]) : List (View.Piece (Elt Ideal) S1x128x3000 .bf16) × List (View.Piece (Elt Ideal) S1x3000x400 .fp8e4m3) × List (View.Piece (Elt Ideal) S1x1x3000 .f32)) = _
  simp only [View.readAt_eq_ld, harg1.read_unread, harg2.read_unread, harg5.read_unread, harg7.read_unread]
  rw [View.ld_unit_zero (S := S1x400) hz2, View.ld_unit_zero (S := S416x1) hz2, View.ld_unit_zero (S := S128x1) hz2]
end
end Cert.KernelIdeal.Value
-- ==== Proof.Tile.lean ====
module

public import proofs.«01_k».proof.Proof.Trip

@[expose] public section

set_option maxRecDepth 16384

noncomputable section

/-! The values the body stores for one tile of frames, each read at an index of the block it is stored into. -/

namespace Cert.KernelIdeal.Value

open Cert.KernelIdeal Cert.KernelIdeal.Gen
open Idealize.ShloMosaic Idealize.ShloMosaic.TcCoe Idealize.SL.Sem

variable (x0 : Vec Ideal S1x3088x160 .bf16) (x1 : Vec Ideal S1x400 .f32) (x2 x3 : Vec Ideal S201x400 .fp8e4m3) (x4 : Vec Ideal S416x1 .f32)
  (x5 : Vec Ideal S128x201 .fp8e4m3) (x6 : Vec Ideal S128x1 .f32)

/-- The log-mel value of mel band `g` at frame `t`, before the clamp: the logarithm in base ten as the program forms it. -/
def yOf (t : Fin 3072) (g : Fin 128) : EReal :=
  rowLog (fun f k => x2 (ix2 f k)) (fun f k => x3 (ix2 f k)) (fun g f => x5 (ix2 g f)) (fun f => x4 (ix2 ⟨f.val, by omega⟩ 0))
          (fun f => x4 (ix2 ⟨208 + f.val, by omega⟩ 0)) (fun g => x6 (ix2 g 0)) (frameOf x0 x1 t) g * invLn2 * log10_2

/-- The block of the log-mel result before the clamp. -/
def G7 : Vec Ideal S1x128x3000 .bf16 := fun y =>
  Ideal.div (yOf x0 x1 x2 x3 x4 x5 x6 ⟨(y 2).val, Nat.lt_of_lt_of_le (y 2).isLt (by decide)⟩ (y 1) + Ideal.ofBits FTy.f32 0x40800000#32) (Ideal.ofBits FTy.f32 0x40800000#32)

/-- The block of codes. -/
def G8 : Vec Ideal S1x3000x400 .fp8e4m3 := fun y => rowCode (frameOf x0 x1 ⟨(y 1).val, Nat.lt_of_lt_of_le (y 1).isLt (by decide)⟩) (y 2)

/-- The block of scales. -/
def G9 : Vec Ideal S1x1x3000 .f32 := fun y => rowScl (frameOf x0 x1 ⟨(y 2).val, Nat.lt_of_lt_of_le (y 2).isLt (by decide)⟩)

theorem trips_le (k : Fin k0_t1_loop.trips) : k.val < 23 := Nat.lt_of_lt_of_le k.isLt k0_t1_abs.2.1

theorem hopsAt_at (k : Fin k0_t1_loop.trips) (r : Fin 144) (j : Fin 160) :
    hopsAt x0 k (ix3 0 r j) = x0 (ix3 0 ⟨128 * k.val + r.val, by have := trips_le k; omega⟩ j) := by
  show x0 _ = x0 _
  congr 1
  refine funext fun a => Fin.ext ?_
  fin_cases a <;> simp [k0_off1_eq] <;> rfl

theorem frame_tile (k : Fin k0_t1_loop.trips) (r : Fin 128) :
    (fun n => k0_pay2 (hopsAt x0 k) x1 (ix2 r n)) = frameOf x0 x1 ⟨128 * k.val + r.val, by have := trips_le k; omega⟩ := by
  funext n
  rw [cat3, hopsAt_at]
  unfold frameOf
  congr 2
  idx_ext

/-- The hops the tail reads: 144 rows from row 2944 on. -/
abbrev hopsTail : Vec Ideal S1x144x160 .bf16 :=
  View.ld (Val := Elt Ideal) (S := S1x3088x160) x0 (Rect.unit (s := S1x3088x160) ![0, 2944, 0] S1x144x160.size inb_S1x3088x160_S1x144x160_0_2944_0)

theorem frame_tail (r : Fin 128) : (fun n => k0_pay17 (hopsTail x0) x1 (ix2 r n)) = frameOf x0 x1 ⟨2944 + r.val, by omega⟩ := by
  funext n
  rw [cat3_tail]
  unfold frameOf
  congr 1
  show x0 _ = x0 _
  congr 1
  refine funext fun a => Fin.ext ?_
  fin_cases a <;> simp <;> omega

theorem tile_y (k : Fin k0_t1_loop.trips) (g r : Fin 128) :
    tileLog (k0_pay11 x2 x3) (k0_pay12 x5) (hopsAt x0 k) x1 x4 x6 (ix2 g r) * invLn2 * log10_2
      = yOf x0 x1 x2 x3 x4 x5 x6 ⟨128 * k.val + r.val, by have := trips_le k; omega⟩ g := by
  rw [tileLog, pay10_at, frame_tile, yOf]

theorem tail_y (g r : Fin 128) :
    k0_pay25 (k0_pay12 x5) (k0_pay24 (k0_pay11 x2 x3) (k0_pay17 (hopsTail x0) x1) (k0_pay18 (hopsTail x0) x1)) x4 x6 (ix2 g r)
      = yOf x0 x1 x2 x3 x4 x5 x6 ⟨2944 + r.val, by omega⟩ g := by
  rw [pay25_at, frame_tail, yOf]

theorem piece7 (k : Fin k0_t1_loop.trips) (p : S1x128x128.Idx) :
    k0_pay15 (tileLog (k0_pay11 x2 x3) (k0_pay12 x5) (hopsAt x0 k) x1 x4 x6) invLn2 p
      = G7 x0 x1 x2 x3 x4 x5 x6 ((Rect.unit (s := S1x128x3000) (k0_off4 k) S1x128x128.size (k0_off4_inb k)).emb p) := by
  idx_vars p
  obtain rfl : p0 = 0 := Subsingleton.elim _ _
  rw [pay15_at, tile_y, G7]
  congr 3 <;> (try apply Fin.ext) <;> simp [k0_off4_eq]

theorem piece8 (k : Fin k0_t1_loop.trips) (p : S1x128x400.Idx) :
    k0_pay7 (k0_pay2 (hopsAt x0 k) x1) (k0_pay4 (hopsAt x0 k) x1) p
      = G8 x0 x1 ((Rect.unit (s := S1x3000x400) (k0_off2 k) S1x128x400.size (k0_off2_inb k)).emb p) := by
  idx_vars p
  obtain rfl : p0 = 0 := Subsingleton.elim _ _
  rw [pay7_at, frame_tile, G8]
  congr 2 <;> (try apply Fin.ext) <;> simp [k0_off2_eq]

theorem piece9 (k : Fin k0_t1_loop.trips) (p : S1x1x128.Idx) :
    k0_pay9 (F := Ideal) (k0_pay5 (hopsAt x0 k) x1) p
      = G9 x0 x1 ((Rect.unit (s := S1x1x3000) (k0_off3 k) S1x1x128.size (k0_off3_inb k)).emb p) := by
  idx_vars p
  obtain rfl : p0 = 0 := Subsingleton.elim _ _
  obtain rfl : p1 = 0 := Subsingleton.elim _ _
  rw [pay9_at, frame_tile, G9]
  congr 2 <;> (try apply Fin.ext) <;> simp [k0_off3_eq]

theorem piece7_tail (p : S1x128x56.Idx) :
    k0_pay26 (k0_pay12 x5) (k0_pay24 (k0_pay11 x2 x3) (k0_pay17 (hopsTail x0) x1) (k0_pay18 (hopsTail x0) x1)) x4 x6 p
      = G7 x0 x1 x2 x3 x4 x5 x6 ((Rect.unit (s := S1x128x3000) ![0, 0, 2944] S1x128x56.size inb_S1x128x3000_S1x128x56_0_0_2944).emb p) := by
  idx_vars p
  obtain rfl : p0 = 0 := Subsingleton.elim _ _
  rw [pay26_at, tail_y, G7]
  congr 3 <;> (try apply Fin.ext) <;> simp

theorem piece8_tail (p : S1x56x400.Idx) :
    k0_pay21 (k0_pay17 (hopsTail x0) x1) (k0_pay18 (hopsTail x0) x1) p
      = G8 x0 x1 ((Rect.unit (s := S1x3000x400) ![0, 2944, 0] S1x56x400.size inb_S1x3000x400_S1x56x400_0_2944_0).emb p) := by
  idx_vars p
  obtain rfl : p0 = 0 := Subsingleton.elim _ _
  rw [pay21_at, frame_tail, G8]
  congr 2 <;> (try apply Fin.ext) <;> simp

theorem piece9_tail (p : S1x1x56.Idx) :
    k0_pay23 (F := Ideal) (k0_pay18 (hopsTail x0) x1) p
      = G9 x0 x1 ((Rect.unit (s := S1x1x3000) ![0, 0, 2944] S1x1x56.size inb_S1x1x3000_S1x1x56_0_0_2944).emb p) := by
  idx_vars p
  obtain rfl : p0 = 0 := Subsingleton.elim _ _
  obtain rfl : p1 = 0 := Subsingleton.elim _ _
  rw [pay23_at, frame_tail, G9]
  congr 2 <;> (try apply Fin.ext) <;> simp

end Cert.KernelIdeal.Value
-- ==== Proof.Inv.lean ====
module

public import proofs.«01_k».proof.Proof.Tile

@[expose] public section

set_option maxRecDepth 16384

noncomputable section

/-! The state of the loop over the full tiles: every piece stored so far carries the values of the whole block at its place, and the carried
    running maximum is the least upper bound of the log-mel values of the frames so far, by lane and by band modulo 8. -/

namespace Cert.KernelIdeal.Value

open Cert.KernelIdeal Cert.KernelIdeal.Gen
open Idealize.ShloMosaic Idealize.ShloMosaic.TcCoe Idealize.SL.Sem

variable (𝒱 : Variants) (c : Dev nD) (bd : Option 𝒱.V) (i : grid0.Coords) (arg1 : Memref sig .tc .vmem S1x3088x160 .bf16) (harg1 : arg1.IsWhole) (arg2 : Memref sig .tc .vmem S1x400 .f32) (harg2 : arg2.IsWhole) (arg3 : Memref sig .tc .vmem S201x400 .fp8e4m3) (harg3 : arg3.IsWhole) (arg4 : Memref sig .tc .vmem S201x400 .fp8e4m3) (harg4 : arg4.IsWhole) (arg5 : Memref sig .tc .vmem S416x1 .f32) (harg5 : arg5.IsWhole) (arg6 : Memref sig .tc .vmem S128x201 .fp8e4m3) (harg6 : arg6.IsWhole) (arg7 : Memref sig .tc .vmem S128x1 .f32) (harg7 : arg7.IsWhole) (arg8 : Memref sig .tc .vmem S1x128x3000 .bf16) (harg8 : arg8.IsWhole) (arg9 : Memref sig .tc .vmem S1x3000x400 .fp8e4m3) (harg9 : arg9.IsWhole) (arg10 : Memref sig .tc .vmem S1x1x3000 .f32) (harg10 : arg10.IsWhole) (arg11 : Memref sig .tc .vmem S1x8x128 .f32) (harg11 : arg11.IsWhole)
  (x0 : Vec Ideal S1x3088x160 .bf16) (x1 : Vec Ideal S1x400 .f32) (x2 x3 : Vec Ideal S201x400 .fp8e4m3) (x4 : Vec Ideal S416x1 .f32)
  (x5 : Vec Ideal S128x201 .fp8e4m3) (x6 : Vec Ideal S128x1 .f32)

/-- What the loop leaves at trip `n`, read through its pieces. -/
structure Inv (n : Nat) (st : (FVec Ideal S8x128 .f32) × List (View.Piece (Elt Ideal) S1x128x3000 .bf16) × List (View.Piece (Elt Ideal) S1x3000x400 .fp8e4m3) × List (View.Piece (Elt Ideal) S1x1x3000 .f32)) : Prop where
  h7 : ∀ p ∈ st.2.1, ∀ x, p.2 x = G7 x0 x1 x2 x3 x4 x5 x6 (p.1.emb x)
  h8 : ∀ p ∈ st.2.2.1, ∀ x, p.2 x = G8 x0 x1 (p.1.emb x)
  h9 : ∀ p ∈ st.2.2.2, ∀ x, p.2 x = G9 x0 x1 (p.1.emb x)
  h10 : ∀ (a : Fin 8) (q : Fin 128) (z : EReal), st.1 (ix2 a q) ≤ z ↔
    ∀ t : Fin 3072, t.val < 128 * n → t.val % 128 = q.val → ∀ g : Fin 128, g.val % 8 = a.val → yOf x0 x1 x2 x3 x4 x5 x6 t g ≤ z

theorem st_inv (n : Nat) (hn : n ≤ k0_t1_loop.trips) : Inv x0 x1 x2 x3 x4 x5 x6 n (st_k0_t1 (F := Ideal) 𝒱 c bd i arg1 harg1 arg2 harg2 arg3 harg3 arg4 harg4 arg5 harg5 arg6 harg6 arg7 harg7 arg8 harg8 arg9 harg9 arg10 harg10 arg11 harg11 x2 x3 x5 (harg1.unread x0) (harg2.unread x1) (harg5.unread x4) (harg7.unread x6) k0_pay13 n) := by
  induction n with
  | zero =>
    refine ⟨fun p hp => absurd hp (List.not_mem_nil), fun p hp => absurd hp (List.not_mem_nil), fun p hp => absurd hp (List.not_mem_nil), fun a q z => ?_⟩
    refine ⟨fun _ t ht => absurd ht (by omega), fun _ => ?_⟩
    show k0_pay13 (F := Ideal) (ix2 a q) ≤ z
    rw [pay13_at]
    exact bot_le
  | succ n ih =>
    obtain ⟨i7, i8, i9, i10⟩ := ih (by omega)
    have hs := st_k0_t1_succ (F := Ideal) 𝒱 c bd i arg1 harg1 arg2 harg2 arg3 harg3 arg4 harg4 arg5 harg5 arg6 harg6 arg7 harg7 arg8 harg8 arg9 harg9 arg10 harg10 arg11 harg11 x2 x3 x5 (harg1.unread x0) (harg2.unread x1) (harg5.unread x4) (harg7.unread x6) k0_pay13 ⟨n, hn⟩
    rw [tripR_eq, tripL_eq] at hs
    change st_k0_t1 (F := Ideal) 𝒱 c bd i arg1 harg1 arg2 harg2 arg3 harg3 arg4 harg4 arg5 harg5 arg6 harg6 arg7 harg7 arg8 harg8 arg9 harg9 arg10 harg10 arg11 harg11 x2 x3 x5 (harg1.unread x0) (harg2.unread x1) (harg5.unread x4) (harg7.unread x6) k0_pay13 (n + 1) = _ at hs
    rw [hs]
    refine ⟨fun p hp => ?_, fun p hp => ?_, fun p hp => ?_, fun a q z => ?_⟩
    · rcases List.mem_append.1 hp with h | h
      · obtain rfl := List.mem_singleton.1 h
        exact piece7 x0 x1 x2 x3 x4 x5 x6 ⟨n, hn⟩
      · exact i7 p h
    · rcases List.mem_append.1 hp with h | h
      · obtain rfl := List.mem_singleton.1 h
        exact piece8 x0 x1 ⟨n, hn⟩
      · exact i8 p h
    · rcases List.mem_append.1 hp with h | h
      · obtain rfl := List.mem_singleton.1 h
        exact piece9 x0 x1 ⟨n, hn⟩
      · exact i9 p h
    · refine (pay16_le _ _ a q z).trans ?_
      refine (and_congr_left' (i10 a q z)).trans ?_
      have hn' := trips_le ⟨n, hn⟩
      constructor
      · rintro ⟨h1, h2⟩ t ht hq g hg
        by_cases htn : t.val < 128 * n
        · exact h1 t htn hq g hg
        · have h := h2 ⟨g.val / 8, by omega⟩
          rw [tile_y] at h
          convert h using 2 <;> apply Fin.ext <;> simp <;> omega
      · intro h
        refine ⟨fun t ht => h t (by omega), fun x => ?_⟩
        rw [tile_y]
        exact h _ (by simp <;> omega) (by simp <;> omega) _ (by simp <;> omega)

theorem trips_eq : k0_t1_loop.trips = 23 := by decide +kernel

end Cert.KernelIdeal.Value
-- ==== Proof.Block.lean ====
module

public import proofs.«01_k».proof.Proof.Inv
public import proofs.«01_k».proof.Proof.Gen.KernelIdeal.Frame

@[expose] public section

set_option maxRecDepth 16384

noncomputable section

/-! What the body leaves in each output block at a grid point. -/

namespace Cert.KernelIdeal.Value

open Cert.KernelIdeal Cert.KernelIdeal.Gen
open Idealize.ShloMosaic Idealize.ShloMosaic.TcCoe Idealize.SL.Sem

variable (c : Dev nD) (i : grid0.Coords) (arg1 : Memref sig .tc .vmem S1x3088x160 .bf16) (harg1 : arg1.IsWhole) (arg2 : Memref sig .tc .vmem S1x400 .f32) (harg2 : arg2.IsWhole) (arg3 : Memref sig .tc .vmem S201x400 .fp8e4m3) (harg3 : arg3.IsWhole) (arg4 : Memref sig .tc .vmem S201x400 .fp8e4m3) (harg4 : arg4.IsWhole) (arg5 : Memref sig .tc .vmem S416x1 .f32) (harg5 : arg5.IsWhole) (arg6 : Memref sig .tc .vmem S128x201 .fp8e4m3) (harg6 : arg6.IsWhole) (arg7 : Memref sig .tc .vmem S128x1 .f32) (harg7 : arg7.IsWhole) (arg8 : Memref sig .tc .vmem S1x128x3000 .bf16) (harg8 : arg8.IsWhole) (arg9 : Memref sig .tc .vmem S1x3000x400 .fp8e4m3) (harg9 : arg9.IsWhole) (arg10 : Memref sig .tc .vmem S1x1x3000 .f32) (harg10 : arg10.IsWhole) (arg11 : Memref sig .tc .vmem S1x8x128 .f32) (harg11 : arg11.IsWhole)
  (x0 : Vec Ideal S1x3088x160 .bf16) (x1 : Vec Ideal S1x400 .f32) (x2 x3 : Vec Ideal S201x400 .fp8e4m3) (x4 : Vec Ideal S416x1 .f32)
  (x5 : Vec Ideal S128x201 .fp8e4m3) (x6 : Vec Ideal S128x1 .f32)

theorem hz3 : (![0, 0, 0] : Fin 3 → Nat) = fun _ => 0 := funext fun a => by fin_cases a <;> rfl

set_option maxHeartbeats 1600000 in
/-- The block of the log-mel result after the body. -/
theorem out7_eq : out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = G7 x0 x1 x2 x3 x4 x5 x6 := by
  have hc := cover0_A_7 (F := Ideal) c i arg1 harg1 arg2 harg2 arg3 harg3 arg4 harg4 arg5 harg5 arg6 harg6 arg7 harg7 arg8 harg8 arg9 harg9 arg10 harg10 arg11 harg11 x0 x1 x2 x3 x4 x5 x6
  unfold out0_A_7
  rw [View.read_writes_eq_canon _ _ _ hc]
  have hL : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).1
      = ((⟨Rect.unit (s := S1x128x3000) ![0, 0, 2944] S1x128x56.size inb_S1x128x3000_S1x128x56_0_0_2944, k0_pay26 (k0_pay12 x5) (k0_pay24 (k0_pay11 x2 x3) (k0_pay17 (hopsTail x0) x1) (k0_pay18 (hopsTail x0) x1)) x4 x6⟩ : View.Piece (Elt Ideal) S1x128x3000 .bf16) :: (st_k0_t1 (F := Ideal) Variants.none c none i arg1 harg1 arg2 harg2 arg3 harg3 arg4 harg4 arg5 harg5 arg6 harg6 arg7 harg7 arg8 harg8 arg9 harg9 arg10 harg10 arg11 harg11 x2 x3 x5 (harg1.unread x0) (harg2.unread x1) (harg5.unread x4) (harg7.unread x6) k0_pay13 k0_t1_loop.trips).2.1) := by
    unfold kernelRun0_A
    show ((⟨Rect.unit (s := S1x128x3000) ![0, 0, 2944] S1x128x56.size inb_S1x128x3000_S1x128x56_0_0_2944, k0_pay26 (k0_pay12 (View.readAt (Elt Ideal) arg6.view (Rect.unit (s := S128x201) ![0, 0] S128x201.size inb_S128x201_S128x201_0_0).toLoadRect (harg6.unread x5))) (k0_pay24 (k0_pay11 (View.readAt (Elt Ideal) arg3.view (Rect.unit (s := S201x400) ![0, 0] S201x400.size inb_S201x400_S201x400_0_0).toLoadRect (harg3.unread x2)) (View.readAt (Elt Ideal) arg4.view (Rect.unit (s := S201x400) ![0, 0] S201x400.size inb_S201x400_S201x400_0_0).toLoadRect (harg4.unread x3))) (k0_pay17 (View.readAt (Elt Ideal) arg1.view (Rect.unit (s := S1x3088x160) ![0, 2944, 0] S1x144x160.size inb_S1x3088x160_S1x144x160_0_2944_0).toLoadRect (harg1.unread x0)) (View.readAt (Elt Ideal) arg2.view (Rect.unit (s := S1x400) ![0, 0] S1x400.size inb_S1x400_S1x400_0_0).toLoadRect (harg2.unread x1))) (k0_pay18 (View.readAt (Elt Ideal) arg1.view (Rect.unit (s := S1x3088x160) ![0, 2944, 0] S1x144x160.size inb_S1x3088x160_S1x144x160_0_2944_0).toLoadRect (harg1.unread x0)) (View.readAt (Elt Ideal) arg2.view (Rect.unit (s := S1x400) ![0, 0] S1x400.size inb_S1x400_S1x400_0_0).toLoadRect (harg2.unread x1)))) (View.readAt (Elt Ideal) arg5.view (Rect.unit (s := S416x1) ![0, 0] S416x1.size inb_S416x1_S416x1_0_0).toLoadRect (harg5.unread x4)) (View.readAt (Elt Ideal) arg7.view (Rect.unit (s := S128x1) ![0, 0] S128x1.size inb_S128x1_S128x1_0_0).toLoadRect (harg7.unread x6))⟩ : View.Piece (Elt Ideal) S1x128x3000 .bf16) :: (st_k0_t1 (F := Ideal) Variants.none c none i arg1 harg1 arg2 harg2 arg3 harg3 arg4 harg4 arg5 harg5 arg6 harg6 arg7 harg7 arg8 harg8 arg9 harg9 arg10 harg10 arg11 harg11 (View.readAt (Elt Ideal) arg3.view (Rect.unit (s := S201x400) ![0, 0] S201x400.size inb_S201x400_S201x400_0_0).toLoadRect (harg3.unread x2)) (View.readAt (Elt Ideal) arg4.view (Rect.unit (s := S201x400) ![0, 0] S201x400.size inb_S201x400_S201x400_0_0).toLoadRect (harg4.unread x3)) (View.readAt (Elt Ideal) arg6.view (Rect.unit (s := S128x201) ![0, 0] S128x201.size inb_S128x201_S128x201_0_0).toLoadRect (harg6.unread x5)) (harg1.unread x0) (harg2.unread x1) (harg5.unread x4) (harg7.unread x6) k0_pay13 k0_t1_loop.trips).2.1) = _
    simp only [View.readAt_eq_ld, harg1.read_unread, harg2.read_unread, harg3.read_unread, harg4.read_unread, harg5.read_unread, harg6.read_unread, harg7.read_unread]
    rw [View.ld_unit_zero (S := S1x400) hz2, View.ld_unit_zero (S := S201x400) hz2, View.ld_unit_zero (S := S201x400) hz2, View.ld_unit_zero (S := S128x201) hz2, View.ld_unit_zero (S := S416x1) hz2, View.ld_unit_zero (S := S128x1) hz2]
  rw [hL] at hc ⊢
  funext y
  refine View.canon_apply_of_pieces (G7 x0 x1 x2 x3 x4 x5 x6) _ (fun p hp => ?_) y (hc y)
  rcases List.mem_cons.1 hp with rfl | h
  · exact piece7_tail x0 x1 x2 x3 x4 x5 x6
  · exact (st_inv Variants.none c none i arg1 harg1 arg2 harg2 arg3 harg3 arg4 harg4 arg5 harg5 arg6 harg6 arg7 harg7 arg8 harg8 arg9 harg9 arg10 harg10 arg11 harg11 x0 x1 x2 x3 x4 x5 x6 _ le_rfl).h7 p h

set_option maxHeartbeats 1600000 in
/-- The block of codes after the body. -/
theorem out8_eq : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 = G8 x0 x1 := by
  have hc := cover0_A_8 (F := Ideal) c i arg1 harg1 arg2 harg2 arg3 harg3 arg4 harg4 arg5 harg5 arg6 harg6 arg7 harg7 arg8 harg8 arg9 harg9 arg10 harg10 arg11 harg11 x0 x1 x2 x3 x4 x5 x6
  unfold out0_A_8
  rw [View.read_writes_eq_canon _ _ _ hc]
  have hL : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).2.1
      = ((⟨Rect.unit (s := S1x3000x400) ![0, 2944, 0] S1x56x400.size inb_S1x3000x400_S1x56x400_0_2944_0, k0_pay21 (k0_pay17 (hopsTail x0) x1) (k0_pay18 (hopsTail x0) x1)⟩ : View.Piece (Elt Ideal) S1x3000x400 .fp8e4m3) :: (st_k0_t1 (F := Ideal) Variants.none c none i arg1 harg1 arg2 harg2 arg3 harg3 arg4 harg4 arg5 harg5 arg6 harg6 arg7 harg7 arg8 harg8 arg9 harg9 arg10 harg10 arg11 harg11 x2 x3 x5 (harg1.unread x0) (harg2.unread x1) (harg5.unread x4) (harg7.unread x6) k0_pay13 k0_t1_loop.trips).2.2.1) := by
    unfold kernelRun0_A
    show ((⟨Rect.unit (s := S1x3000x400) ![0, 2944, 0] S1x56x400.size inb_S1x3000x400_S1x56x400_0_2944_0, k0_pay21 (k0_pay17 (View.readAt (Elt Ideal) arg1.view (Rect.unit (s := S1x3088x160) ![0, 2944, 0] S1x144x160.size inb_S1x3088x160_S1x144x160_0_2944_0).toLoadRect (harg1.unread x0)) (View.readAt (Elt Ideal) arg2.view (Rect.unit (s := S1x400) ![0, 0] S1x400.size inb_S1x400_S1x400_0_0).toLoadRect (harg2.unread x1))) (k0_pay18 (View.readAt (Elt Ideal) arg1.view (Rect.unit (s := S1x3088x160) ![0, 2944, 0] S1x144x160.size inb_S1x3088x160_S1x144x160_0_2944_0).toLoadRect (harg1.unread x0)) (View.readAt (Elt Ideal) arg2.view (Rect.unit (s := S1x400) ![0, 0] S1x400.size inb_S1x400_S1x400_0_0).toLoadRect (harg2.unread x1)))⟩ : View.Piece (Elt Ideal) S1x3000x400 .fp8e4m3) :: (st_k0_t1 (F := Ideal) Variants.none c none i arg1 harg1 arg2 harg2 arg3 harg3 arg4 harg4 arg5 harg5 arg6 harg6 arg7 harg7 arg8 harg8 arg9 harg9 arg10 harg10 arg11 harg11 (View.readAt (Elt Ideal) arg3.view (Rect.unit (s := S201x400) ![0, 0] S201x400.size inb_S201x400_S201x400_0_0).toLoadRect (harg3.unread x2)) (View.readAt (Elt Ideal) arg4.view (Rect.unit (s := S201x400) ![0, 0] S201x400.size inb_S201x400_S201x400_0_0).toLoadRect (harg4.unread x3)) (View.readAt (Elt Ideal) arg6.view (Rect.unit (s := S128x201) ![0, 0] S128x201.size inb_S128x201_S128x201_0_0).toLoadRect (harg6.unread x5)) (harg1.unread x0) (harg2.unread x1) (harg5.unread x4) (harg7.unread x6) k0_pay13 k0_t1_loop.trips).2.2.1) = _
    simp only [View.readAt_eq_ld, harg1.read_unread, harg2.read_unread, harg3.read_unread, harg4.read_unread, harg5.read_unread, harg6.read_unread, harg7.read_unread]
    rw [View.ld_unit_zero (S := S1x400) hz2, View.ld_unit_zero (S := S201x400) hz2, View.ld_unit_zero (S := S201x400) hz2, View.ld_unit_zero (S := S128x201) hz2]
  rw [hL] at hc ⊢
  funext y
  refine View.canon_apply_of_pieces (G8 x0 x1) _ (fun p hp => ?_) y (hc y)
  rcases List.mem_cons.1 hp with rfl | h
  · exact piece8_tail x0 x1
  · exact (st_inv Variants.none c none i arg1 harg1 arg2 harg2 arg3 harg3 arg4 harg4 arg5 harg5 arg6 harg6 arg7 harg7 arg8 harg8 arg9 harg9 arg10 harg10 arg11 harg11 x0 x1 x2 x3 x4 x5 x6 _ le_rfl).h8 p h

set_option maxHeartbeats 1600000 in
/-- The block of scales after the body. -/
theorem out9_eq : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 = G9 x0 x1 := by
  have hc := cover0_A_9 (F := Ideal) c i arg1 harg1 arg2 harg2 arg3 harg3 arg4 harg4 arg5 harg5 arg6 harg6 arg7 harg7 arg8 harg8 arg9 harg9 arg10 harg10 arg11 harg11 x0 x1 x2 x3 x4 x5 x6
  unfold out0_A_9
  rw [View.read_writes_eq_canon _ _ _ hc]
  have hL : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).2.2.1
      = ((⟨Rect.unit (s := S1x1x3000) ![0, 0, 2944] S1x1x56.size inb_S1x1x3000_S1x1x56_0_0_2944, k0_pay23 (F := Ideal) (k0_pay18 (hopsTail x0) x1)⟩ : View.Piece (Elt Ideal) S1x1x3000 .f32) :: (st_k0_t1 (F := Ideal) Variants.none c none i arg1 harg1 arg2 harg2 arg3 harg3 arg4 harg4 arg5 harg5 arg6 harg6 arg7 harg7 arg8 harg8 arg9 harg9 arg10 harg10 arg11 harg11 x2 x3 x5 (harg1.unread x0) (harg2.unread x1) (harg5.unread x4) (harg7.unread x6) k0_pay13 k0_t1_loop.trips).2.2.2) := by
    unfold kernelRun0_A
    show ((⟨Rect.unit (s := S1x1x3000) ![0, 0, 2944] S1x1x56.size inb_S1x1x3000_S1x1x56_0_0_2944, k0_pay23 (F := Ideal) (k0_pay18 (View.readAt (Elt Ideal) arg1.view (Rect.unit (s := S1x3088x160) ![0, 2944, 0] S1x144x160.size inb_S1x3088x160_S1x144x160_0_2944_0).toLoadRect (harg1.unread x0)) (View.readAt (Elt Ideal) arg2.view (Rect.unit (s := S1x400) ![0, 0] S1x400.size inb_S1x400_S1x400_0_0).toLoadRect (harg2.unread x1)))⟩ : View.Piece (Elt Ideal) S1x1x3000 .f32) :: (st_k0_t1 (F := Ideal) Variants.none c none i arg1 harg1 arg2 harg2 arg3 harg3 arg4 harg4 arg5 harg5 arg6 harg6 arg7 harg7 arg8 harg8 arg9 harg9 arg10 harg10 arg11 harg11 (View.readAt (Elt Ideal) arg3.view (Rect.unit (s := S201x400) ![0, 0] S201x400.size inb_S201x400_S201x400_0_0).toLoadRect (harg3.unread x2)) (View.readAt (Elt Ideal) arg4.view (Rect.unit (s := S201x400) ![0, 0] S201x400.size inb_S201x400_S201x400_0_0).toLoadRect (harg4.unread x3)) (View.readAt (Elt Ideal) arg6.view (Rect.unit (s := S128x201) ![0, 0] S128x201.size inb_S128x201_S128x201_0_0).toLoadRect (harg6.unread x5)) (harg1.unread x0) (harg2.unread x1) (harg5.unread x4) (harg7.unread x6) k0_pay13 k0_t1_loop.trips).2.2.2) = _
    simp only [View.readAt_eq_ld, harg1.read_unread, harg2.read_unread, harg3.read_unread, harg4.read_unread, harg5.read_unread, harg6.read_unread, harg7.read_unread]
    rw [View.ld_unit_zero (S := S1x400) hz2, View.ld_unit_zero (S := S201x400) hz2, View.ld_unit_zero (S := S201x400) hz2, View.ld_unit_zero (S := S128x201) hz2]
  rw [hL] at hc ⊢
  funext y
  refine View.canon_apply_of_pieces (G9 x0 x1) _ (fun p hp => ?_) y (hc y)
  rcases List.mem_cons.1 hp with rfl | h
  · exact piece9_tail x0 x1
  · exact (st_inv Variants.none c none i arg1 harg1 arg2 harg2 arg3 harg3 arg4 harg4 arg5 harg5 arg6 harg6 arg7 harg7 arg8 harg8 arg9 harg9 arg10 harg10 arg11 harg11 x0 x1 x2 x3 x4 x5 x6 _ le_rfl).h9 p h

set_option maxHeartbeats 1600000 in
/-- The block of partial maxima after the body: each entry is the least upper bound of the log-mel values of its lane and of its bands. -/
theorem out10_le (a : Fin 8) (q : Fin 128) (z : EReal) : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 (ix3 0 a q) ≤ z ↔
    ∀ t : Fin 3072, t.val < 3000 → t.val % 128 = q.val → ∀ g : Fin 128, g.val % 8 = a.val → yOf x0 x1 x2 x3 x4 x5 x6 t g ≤ z := by
  have hc := cover0_A_10 (F := Ideal) c i arg1 harg1 arg2 harg2 arg3 harg3 arg4 harg4 arg5 harg5 arg6 harg6 arg7 harg7 arg8 harg8 arg9 harg9 arg10 harg10 arg11 harg11 x0 x1 x2 x3 x4 x5 x6
  unfold out0_A_10
  rw [View.read_writes_eq_canon _ _ _ hc]
  have hL : (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).2.2.2.1
      = ((⟨Rect.unit (s := S1x8x128) ![0, 0, 0] S1x8x128.size inb_S1x8x128_S1x8x128_0_0_0, k0_pay1 (k0_pay27 (k0_pay12 x5) (st_k0_t1 (F := Ideal) Variants.none c none i arg1 harg1 arg2 harg2 arg3 harg3 arg4 harg4 arg5 harg5 arg6 harg6 arg7 harg7 arg8 harg8 arg9 harg9 arg10 harg10 arg11 harg11 x2 x3 x5 (harg1.unread x0) (harg2.unread x1) (harg5.unread x4) (harg7.unread x6) k0_pay13 k0_t1_loop.trips).1 (k0_pay24 (k0_pay11 x2 x3) (k0_pay17 (hopsTail x0) x1) (k0_pay18 (hopsTail x0) x1)) x4 x6)⟩ : View.Piece (Elt Ideal) S1x8x128 .f32) :: []) := by
    unfold kernelRun0_A
    show ((⟨Rect.unit (s := S1x8x128) ![0, 0, 0] S1x8x128.size inb_S1x8x128_S1x8x128_0_0_0, k0_pay1 (k0_pay27 (k0_pay12 (View.readAt (Elt Ideal) arg6.view (Rect.unit (s := S128x201) ![0, 0] S128x201.size inb_S128x201_S128x201_0_0).toLoadRect (harg6.unread x5))) (st_k0_t1 (F := Ideal) Variants.none c none i arg1 harg1 arg2 harg2 arg3 harg3 arg4 harg4 arg5 harg5 arg6 harg6 arg7 harg7 arg8 harg8 arg9 harg9 arg10 harg10 arg11 harg11 (View.readAt (Elt Ideal) arg3.view (Rect.unit (s := S201x400) ![0, 0] S201x400.size inb_S201x400_S201x400_0_0).toLoadRect (harg3.unread x2)) (View.readAt (Elt Ideal) arg4.view (Rect.unit (s := S201x400) ![0, 0] S201x400.size inb_S201x400_S201x400_0_0).toLoadRect (harg4.unread x3)) (View.readAt (Elt Ideal) arg6.view (Rect.unit (s := S128x201) ![0, 0] S128x201.size inb_S128x201_S128x201_0_0).toLoadRect (harg6.unread x5)) (harg1.unread x0) (harg2.unread x1) (harg5.unread x4) (harg7.unread x6) k0_pay13 k0_t1_loop.trips).1 (k0_pay24 (k0_pay11 (View.readAt (Elt Ideal) arg3.view (Rect.unit (s := S201x400) ![0, 0] S201x400.size inb_S201x400_S201x400_0_0).toLoadRect (harg3.unread x2)) (View.readAt (Elt Ideal) arg4.view (Rect.unit (s := S201x400) ![0, 0] S201x400.size inb_S201x400_S201x400_0_0).toLoadRect (harg4.unread x3))) (k0_pay17 (View.readAt (Elt Ideal) arg1.view (Rect.unit (s := S1x3088x160) ![0, 2944, 0] S1x144x160.size inb_S1x3088x160_S1x144x160_0_2944_0).toLoadRect (harg1.unread x0)) (View.readAt (Elt Ideal) arg2.view (Rect.unit (s := S1x400) ![0, 0] S1x400.size inb_S1x400_S1x400_0_0).toLoadRect (harg2.unread x1))) (k0_pay18 (View.readAt (Elt Ideal) arg1.view (Rect.unit (s := S1x3088x160) ![0, 2944, 0] S1x144x160.size inb_S1x3088x160_S1x144x160_0_2944_0).toLoadRect (harg1.unread x0)) (View.readAt (Elt Ideal) arg2.view (Rect.unit (s := S1x400) ![0, 0] S1x400.size inb_S1x400_S1x400_0_0).toLoadRect (harg2.unread x1)))) (View.readAt (Elt Ideal) arg5.view (Rect.unit (s := S416x1) ![0, 0] S416x1.size inb_S416x1_S416x1_0_0).toLoadRect (harg5.unread x4)) (View.readAt (Elt Ideal) arg7.view (Rect.unit (s := S128x1) ![0, 0] S128x1.size inb_S128x1_S128x1_0_0).toLoadRect (harg7.unread x6)))⟩ : View.Piece (Elt Ideal) S1x8x128 .f32) :: []) = _
    simp only [View.readAt_eq_ld, harg1.read_unread, harg2.read_unread, harg3.read_unread, harg4.read_unread, harg5.read_unread, harg6.read_unread, harg7.read_unread]
    rw [View.ld_unit_zero (S := S1x400) hz2, View.ld_unit_zero (S := S201x400) hz2, View.ld_unit_zero (S := S201x400) hz2, View.ld_unit_zero (S := S128x201) hz2, View.ld_unit_zero (S := S416x1) hz2, View.ld_unit_zero (S := S128x1) hz2]
  rw [hL, View.canon_unit_zero (S := S1x8x128) hz3, pay1_at]
  refine (pay27_le _ _ _ _ _ a q z).trans ?_
  refine (and_congr_left' ((st_inv Variants.none c none i arg1 harg1 arg2 harg2 arg3 harg3 arg4 harg4 arg5 harg5 arg6 harg6 arg7 harg7 arg8 harg8 arg9 harg9 arg10 harg10 arg11 harg11 x0 x1 x2 x3 x4 x5 x6 _ le_rfl).h10 a q z)).trans ?_
  rw [trips_eq]
  constructor
  · rintro ⟨h1, h2⟩ t ht hq g hg
    by_cases htn : t.val < 128 * 23
    · exact h1 t htn hq g hg
    · have h := h2 ⟨g.val / 8, by omega⟩ (by omega)
      rw [tail_y] at h
      convert h using 2 <;> apply Fin.ext <;> simp <;> omega
  · intro h
    refine ⟨fun t ht => h t (by omega), fun x hq => ?_⟩
    rw [tail_y]
    exact h _ (by simp <;> omega) (by simp <;> omega) _ (by simp <;> omega)

end Cert.KernelIdeal.Value
-- ==== Proof.Arrays.lean ====
module

public import proofs.«01_k».proof.Proof.Block

@[expose] public section

set_option maxRecDepth 16384

noncomputable section

/-! What the arrays of the log-mel call hold after it, each as a function of the arrays it reads. -/

namespace Cert.KernelIdeal.Value

open Cert.KernelIdeal Cert.KernelIdeal.Gen
open Idealize.ShloMosaic Idealize.ShloMosaic.TcCoe Idealize.SL.Sem

/-- The windows' block indices at a grid point. -/
theorem idx0 : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0, 0] ∧ win0_8.index t = ![t.val, 0, 0]
    ∧ win0_9.index t = ![t.val, 0, 0] ∧ win0_10.index t = ![t.val, 0, 0] :=
  (by decide +kernel : ∀ t : Fin grid0.N, _)

/-- One batch entry of the hop array, as a block. -/
def bX (X : Vec Ideal S176x3088x160 .bf16) (b : Fin 176) : Vec Ideal S1x3088x160 .bf16 := fun y => X (ix3 b (y 1) (y 2))

/-- The block of partial maxima: by lane and by band modulo 8, the least upper bound of the log-mel values. -/
def G10 (x0 : Vec Ideal S1x3088x160 .bf16) (x1 : Vec Ideal S1x400 .f32) (x2 x3 : Vec Ideal S201x400 .fp8e4m3) (x4 : Vec Ideal S416x1 .f32)
  (x5 : Vec Ideal S128x201 .fp8e4m3) (x6 : Vec Ideal S128x1 .f32) : Vec Ideal S1x8x128 .f32 := fun y =>
  ⨆ t : {t : Fin 3072 // t.val < 3000 ∧ t.val % 128 = (y 2).val}, ⨆ g : {g : Fin 128 // g.val % 8 = (y 1).val}, yOf x0 x1 x2 x3 x4 x5 x6 t.1 g.1

section
variable (c : Dev nD) (i : grid0.Coords) (arg1 : Memref sig .tc .vmem S1x3088x160 .bf16) (harg1 : arg1.IsWhole) (arg2 : Memref sig .tc .vmem S1x400 .f32) (harg2 : arg2.IsWhole) (arg3 : Memref sig .tc .vmem S201x400 .fp8e4m3) (harg3 : arg3.IsWhole) (arg4 : Memref sig .tc .vmem S201x400 .fp8e4m3) (harg4 : arg4.IsWhole) (arg5 : Memref sig .tc .vmem S416x1 .f32) (harg5 : arg5.IsWhole) (arg6 : Memref sig .tc .vmem S128x201 .fp8e4m3) (harg6 : arg6.IsWhole) (arg7 : Memref sig .tc .vmem S128x1 .f32) (harg7 : arg7.IsWhole) (arg8 : Memref sig .tc .vmem S1x128x3000 .bf16) (harg8 : arg8.IsWhole) (arg9 : Memref sig .tc .vmem S1x3000x400 .fp8e4m3) (harg9 : arg9.IsWhole) (arg10 : Memref sig .tc .vmem S1x1x3000 .f32) (harg10 : arg10.IsWhole) (arg11 : Memref sig .tc .vmem S1x8x128 .f32) (harg11 : arg11.IsWhole)
  (x0 : Vec Ideal S1x3088x160 .bf16) (x1 : Vec Ideal S1x400 .f32) (x2 x3 : Vec Ideal S201x400 .fp8e4m3) (x4 : Vec Ideal S416x1 .f32)
  (x5 : Vec Ideal S128x201 .fp8e4m3) (x6 : Vec Ideal S128x1 .f32)

/-- The block of partial maxima after the body. -/
theorem out10_eq : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6
    = G10 x0 x1 x2 x3 x4 x5 x6 := by
  funext y
  idx_vars y
  obtain rfl : y0 = 0 := Subsingleton.elim _ _
  refine eq_of_forall_ge_iff fun z => ?_
  refine (out10_le c i arg1 harg1 arg2 harg2 arg3 harg3 arg4 harg4 arg5 harg5 arg6 harg6 arg7 harg7 arg8 harg8 arg9 harg9 arg10 harg10 arg11 harg11 x0 x1 x2 x3 x4 x5 x6 y1 y2 z).trans ?_
  unfold G10
  rw [iSup_le_iff]
  simp only [iSup_le_iff, Subtype.forall]
  exact ⟨fun h t ht g hg => h t ht.1 ht.2 g hg, fun h t h1 h2 g hg => h t ⟨h1, h2⟩ g hg⟩
end

variable (V : (c : Dev nD) → (b : Ref sig .tc) → Buf (Elt Ideal) ((c : Thread nD τ).loc b)) (c : Dev nD)

theorem blk0 (t : Fin cfg0.N) : iblk0 V c 0 t = bX (V c main_v2) ⟨t.val, t.isLt⟩ := by
  funext y
  unfold bX
  blk_ext [iblk0, idx0 t]
theorem blk1 (t : Fin cfg0.N) : iblk0 V c 1 t = (V c main_v18 : Vec Ideal S1x400 .f32) := by blk_ext! [iblk0, idx0 t]
theorem blk2 (t : Fin cfg0.N) : iblk0 V c 2 t = (V c main_v12 : Vec Ideal S201x400 .fp8e4m3) := by blk_ext! [iblk0, idx0 t]
theorem blk3 (t : Fin cfg0.N) : iblk0 V c 3 t = (V c main_v14 : Vec Ideal S201x400 .fp8e4m3) := by blk_ext! [iblk0, idx0 t]
theorem blk4 (t : Fin cfg0.N) : iblk0 V c 4 t = (V c main_v17 : Vec Ideal S416x1 .f32) := by blk_ext! [iblk0, idx0 t]
theorem blk5 (t : Fin cfg0.N) : iblk0 V c 5 t = (V c main_arg3 : Vec Ideal S128x201 .fp8e4m3) := by blk_ext! [iblk0, idx0 t]
theorem blk6 (t : Fin cfg0.N) : iblk0 V c 6 t = (V c main_v19 : Vec Ideal S128x1 .f32) := by blk_ext! [iblk0, idx0 t]

/-- The log-mel array before the clamp. -/
def A7 (X : Vec Ideal S176x3088x160 .bf16) (x1 : Vec Ideal S1x400 .f32) (x2 x3 : Vec Ideal S201x400 .fp8e4m3) (x4 : Vec Ideal S416x1 .f32)
    (x5 : Vec Ideal S128x201 .fp8e4m3) (x6 : Vec Ideal S128x1 .f32) : Vec Ideal S176x128x3000 .bf16 := fun i =>
  G7 (bX X (i 0)) x1 x2 x3 x4 x5 x6 (ix3 0 (i 1) (i 2))
/-- The array of codes. -/
def A8 (X : Vec Ideal S176x3088x160 .bf16) (x1 : Vec Ideal S1x400 .f32) : Vec Ideal S176x3000x400 .fp8e4m3 := fun i =>
  G8 (bX X (i 0)) x1 (ix3 0 (i 1) (i 2))
/-- The array of scales. -/
def A9 (X : Vec Ideal S176x3088x160 .bf16) (x1 : Vec Ideal S1x400 .f32) : Vec Ideal S176x1x3000 .f32 := fun i =>
  G9 (bX X (i 0)) x1 (ix3 0 (i 1) (i 2))
/-- The array of partial maxima. -/
def A10 (X : Vec Ideal S176x3088x160 .bf16) (x1 : Vec Ideal S1x400 .f32) (x2 x3 : Vec Ideal S201x400 .fp8e4m3) (x4 : Vec Ideal S416x1 .f32)
    (x5 : Vec Ideal S128x201 .fp8e4m3) (x6 : Vec Ideal S128x1 .f32) : Vec Ideal S176x8x128 .f32 := fun i =>
  G10 (bX X (i 0)) x1 x2 x3 x4 x5 x6 (ix3 0 (i 1) (i 2))

theorem arr7 : (dat0 V c).arrAt 7 cfg0.N = A7 (V c main_v2) (V c main_v18) (V c main_v12) (V c main_v14) (V c main_v17) (V c main_arg3) (V c main_v19) := by
  refine (dat0 V c).arrAt_eq_of_covers 7 _ (by decide +kernel) fun t _ y => ?_
  blk_simp
  rw [after0_7, outsAt0]
  dsimp only
  rw [out7_eq, blk0, blk1, blk2, blk3, blk4, blk5, blk6, A7]
  refine congr_arg₂ (fun (b : Fin 176) (z : S1x128x3000.Idx) => G7 (bX (V c main_v2) b) (V c main_v18) (V c main_v12) (V c main_v14) (V c main_v17) (V c main_arg3) (V c main_v19) z) (Fin.ext ?_) ?_
  · blk_simp [idx0 t]
  · blk_ext [idx0 t]

theorem arr8 : (dat0 V c).arrAt 8 cfg0.N = A8 (V c main_v2) (V c main_v18) := by
  refine (dat0 V c).arrAt_eq_of_covers 8 _ (by decide +kernel) fun t _ y => ?_
  blk_simp
  rw [after0_8, outsAt0]
  dsimp only
  rw [out8_eq, blk0, blk1, A8]
  refine congr_arg₂ (fun (b : Fin 176) (z : S1x3000x400.Idx) => G8 (bX (V c main_v2) b) (V c main_v18) z) (Fin.ext ?_) ?_
  · blk_simp [idx0 t]
  · blk_ext [idx0 t]

theorem arr9 : (dat0 V c).arrAt 9 cfg0.N = A9 (V c main_v2) (V c main_v18) := by
  refine (dat0 V c).arrAt_eq_of_covers 9 _ (by decide +kernel) fun t _ y => ?_
  blk_simp
  rw [after0_9, outsAt0]
  dsimp only
  rw [out9_eq, blk0, blk1, A9]
  refine congr_arg₂ (fun (b : Fin 176) (z : S1x1x3000.Idx) => G9 (bX (V c main_v2) b) (V c main_v18) z) (Fin.ext ?_) ?_
  · blk_simp [idx0 t]
  · blk_ext [idx0 t]

theorem arr10 : (dat0 V c).arrAt 10 cfg0.N = A10 (V c main_v2) (V c main_v18) (V c main_v12) (V c main_v14) (V c main_v17) (V c main_arg3) (V c main_v19) := by
  refine (dat0 V c).arrAt_eq_of_covers 10 _ (by decide +kernel) fun t _ y => ?_
  blk_simp
  rw [after0_10, outsAt0]
  dsimp only
  rw [out10_eq, blk0, blk1, blk2, blk3, blk4, blk5, blk6, A10]
  refine congr_arg₂ (fun (b : Fin 176) (z : S1x8x128.Idx) => G10 (bX (V c main_v2) b) (V c main_v18) (V c main_v12) (V c main_v14) (V c main_v17) (V c main_arg3) (V c main_v19) z) (Fin.ext ?_) ?_
  · blk_simp [idx0 t]
  · blk_ext [idx0 t]

end Cert.KernelIdeal.Value
-- ==== Proof.Clamp.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

/-! The array the clamp call leaves: the maximum of its operand and the threshold. -/

namespace Cert.KernelIdeal.Value

open Cert.KernelIdeal Cert.KernelIdeal.Gen
open Idealize.ShloMosaic Idealize.ShloMosaic.TcCoe Idealize.SL.Sem

theorem idx1 : ∀ t : Fin cfg1.N, win1_0.index t = ![0, 0] ∧ win1_1.index t = ![t.val, 0, 0] ∧ win1_2.index t = ![t.val, 0, 0] :=
  (by decide +kernel : ∀ t : Fin grid1.N, _)

theorem kpay1_at (v0 : Elt Ideal .f32) (v3 : Vec Ideal S1x128x3000 .bf16) (y : S1x128x3000.Idx) : k1_pay1 v0 v3 y = (max (v3 y) v0 : EReal) := by
  idx_vars y
  pointwise [k1_pay1]
  obtain rfl : y0 = 0 := Subsingleton.elim _ _
  rfl

theorem cz3 : (![0, 0, 0] : Fin 3 → Nat) = fun _ => 0 := funext fun a => by fin_cases a <;> rfl

theorem cz2 : (![0, 0] : Fin 2 → Nat) = fun _ => 0 := funext fun a => by fin_cases a <;> rfl

/-- What the body leaves in its block. -/
theorem outc_eq (c : Dev nD) (i : grid1.Coords) (arg1 : Memref sig .tc .smem S1x1 .f32) (harg1 : arg1.IsWhole) (arg2 : Memref sig .tc .vmem S1x128x3000 .bf16) (harg2 : arg2.IsWhole) (arg3 : Memref sig .tc .vmem S1x128x3000 .bf16) (harg3 : arg3.IsWhole)
    (x0 : Vec Ideal S1x1 .f32) (x1 : Vec Ideal S1x128x3000 .bf16) : out1_A_2 (F := Ideal) c i arg1 harg1 arg2 harg2 arg3 harg3 x0 x1 = k1_pay1 (x0 (ix2 0 0)) x1 := by
  unfold out1_A_2
  rw [View.read_writes_eq_canon _ _ _ (cover1_A_2 (F := Ideal) c i arg1 harg1 arg2 harg2 arg3 harg3 x0 x1)]
  unfold kernelRun1_A
  dsimp only
  sl_unfold_words
  rw [View.canon_unit_zero (S := S1x128x3000) cz3]
  simp only [View.readAt_eq_ld, harg1.read_unread, harg2.read_unread]
  rw [View.ld_unit_zero (S := S1x128x3000) cz3]
  rw [View.ld_unit_zero (S := S1x1) cz2]
  refine congrArg (fun v => k1_pay1 v x1) (congrArg x0 (funext fun a => ?_))
  fin_cases a <;> rfl

variable (V : (c : Dev nD) → (b : Ref sig .tc) → Buf (Elt Ideal) ((c : Thread nD τ).loc b)) (c : Dev nD)

/-- The clamped array. -/
def C2 (A : Vec Ideal S176x128x3000 .bf16) (T : Vec Ideal S1x1 .f32) : Vec Ideal S176x128x3000 .bf16 := fun i => (max (A i) (T (ix2 0 0)) : EReal)

theorem carr2 : (dat1 V c).arrAt 2 cfg1.N = C2 (V c main_v20_0) (V c main_v25) := by
  refine (dat1 V c).arrAt_eq_of_covers 2 _ (by decide +kernel) fun t _ y => ?_
  blk_simp
  rw [after1_2, outsAt1]
  rw [outc_eq]
  refine (kpay1_at _ _ y).trans ?_
  unfold C2
  refine congr_arg₂ (fun (a b : EReal) => max a b) ?_ ?_
  · blk_ext [iblk1, idx1 t]
  · blk_ext [iblk1, idx1 t]

end Cert.KernelIdeal.Value
-- ==== Proof.KernelEnd.lean ====
module

public import proofs.«01_k».proof.Proof.Arrays
public import proofs.«01_k».proof.Proof.Clamp
public import Idealize.ShloMosaic.Lib.Claim

@[expose] public section

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first kernel's codes are the third result: nothing after writes them. -/
theorem end_codes (c : Dev nD) : W11 m ρ c (Proc.devRef .tc main_v20_1)
    = A8 (V7 m ρ c main_v2) (V7 m ρ c main_v18) := by
  rw [W11_of m ρ c main_v20_1 (by decide), W10_of m ρ c main_v20_1 (by decide), W9_of m ρ c main_v20_1 (by decide)]
  exact (W8_arr m ρ c 8).trans (arr8 (V7 m ρ) c)

/-- The first kernel's blocks, clamped by the second one, are the first result. -/
theorem end_out (c : Dev nD) : W11 m ρ c (Proc.devRef .tc main_v26)
    = C2 (W9 m ρ c (Proc.devRef .tc main_v20_0)) (W9 m ρ c (Proc.devRef .tc main_v25)) := by
  rw [W11_of m ρ c main_v26 (by decide)]
  exact (W10_arr m ρ c 2).trans (carr2 (V9 m ρ) c)

/-- The scales, without their unit axis, are the fourth result. -/
theorem end_scales (c : Dev nD) : W11 m ρ c (Proc.devRef .tc main_v30)
    = shapeCast S176x3000 (A9 (V7 m ρ c main_v2) (V7 m ρ c main_v18)) shapeCasts_S176x1x3000_S176x3000 := by
  have h : W10 m ρ c (Proc.devRef .tc main_v20_2) = A9 (V7 m ρ c main_v2) (V7 m ρ c main_v18) := by
    rw [W10_of m ρ c main_v20_2 (by decide), W9_of m ρ c main_v20_2 (by decide)]
    exact (W8_arr m ρ c 9).trans (arr9 (V7 m ρ) c)
  after_results
  rw [h]; rfl

/-- The second result takes three columns of the first. -/
theorem end_edge (c : Dev nD) : W11 m ρ c (Proc.devRef .tc main_v29)
    = concatenate S176x128x3 2
        [⟨S176x128x2, extractStridedSlice S176x128x2 ![0, 0, 0] (W11 m ρ c (Proc.devRef .tc main_v26)) slices_S176x128x3000_S176x128x2_0_0_0⟩,
         ⟨S176x128x1, extractStridedSlice S176x128x1 ![0, 0, 2999] (W11 m ρ c (Proc.devRef .tc main_v26)) slices_S176x128x3000_S176x128x1_0_0_2999⟩]
        concatenates_S176x128x2_S176x128x1_S176x128x3_d2 := by
  rw [W11_of m ρ c main_v26 (by decide)]
  after_results
  try rfl

theorem end_blocks (c : Dev nD) : W9 m ρ c (Proc.devRef .tc main_v20_0)
    = A7 (V7 m ρ c main_v2) (V7 m ρ c main_v18) (V7 m ρ c main_v12) (V7 m ρ c main_v14) (V7 m ρ c main_v17)
        (V7 m ρ c main_arg3) (V7 m ρ c main_v19) := by
  rw [W9_of m ρ c main_v20_0 (by decide)]
  exact (W8_arr m ρ c 7).trans (arr7 (V7 m ρ) c)

theorem end_thr (c : Dev nD) : W9 m ρ c (Proc.devRef .tc main_v25)
    = shapeCast S1x1 (Host.divf (F := Ideal) (addf (subf (Host.reduce FloatOps.maximumf
          (A10 (V7 m ρ c main_v2) (V7 m ρ c main_v18) (V7 m ρ c main_v12) (V7 m ρ c main_v14) (V7 m ρ c main_v17)
            (V7 m ρ c main_arg3) (V7 m ρ c main_v19) : FVec Ideal S176x8x128 .f32) (constant S_ .f32 0xFF800000#32) reducesTo_S176x8x128_S_d0_1_2 h_S_)
        (constant S_ .f32 0x41000000#32)) (constant S_ .f32 0x40800000#32)) (constant S_ .f32 0x40800000#32) : FVec Ideal S_ .f32)
      shapeCasts_S_S1x1 := by
  have h := (W8_arr m ρ c 10).trans (arr10 (V7 m ρ) c)
  change W8 m ρ c (Proc.devRef .tc main_v20_3) = _ at h
  after_results
  rw [h]; rfl

end Cert.KernelIdeal.Value

end
-- ==== Proof.Host.lean ====
module

public import proofs.«01_k».proof.Proof.Rows
public import proofs.«01_k».proof.Proof.Gen.KernelIdeal.Frame
public import Idealize.ShloMosaic.Lib.Claim

@[expose] public section

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The window as the host computes it: `0.5 * (1 - cos (n * κ))`. -/
def winK : FVec Ideal S400 .f32 :=
  mulf (broadcastInDim S400 ![] bcast_S_S400 (constant S_ .f32 0x3F000000#32))
    (subf (broadcastInDim S400 ![] bcast_S_S400 (constant S_ .f32 0x3F800000#32))
      (Host.cos (mulf (sitofp .f32 (iotaInDim S400 32 0)) (broadcastInDim S400 ![] bcast_S_S400 (constant S_ .f32 0x3C80ADFD#32)))))

/-- The reflect padding of the samples by 200 on either side, as the kernel's host code computes it. -/
def padL (x : FVec Ideal S176x480000 .bf16) : FVec Ideal S176x480200 .bf16 :=
  concatenate S176x480200 1 [⟨S176x200, Host.reverse [1] (extractStridedSlice S176x200 ![0, 1] x slices_S176x480000_S176x200_0_1)⟩,
    ⟨S176x480000, x⟩] concatenates_S176x200_S176x480000_S176x480200_d1
def padK (x : FVec Ideal S176x480000 .bf16) : FVec Ideal S176x480400 .bf16 :=
  concatenate S176x480400 1 [⟨S176x480200, padL x⟩,
    ⟨S176x200, Host.reverse [1] (extractStridedSlice S176x200 ![0, 479999] (padL x) slices_S176x480200_S176x200_0_479999)⟩]
    concatenates_S176x480200_S176x200_S176x480400_d1

theorem v7_v2 (c : Dev nD) : V7 m ρ c main_v2
    = shapeCast S176x3088x160 (pad S176x494080 ![0, 0] ![0, 13680] ![0, 0] (padK (m ((c.tc : Thread nD τ).loc main_arg0)))
        (sitofp .bf16 (constantI S_ 32 0#32) : FVec Ideal S_ .bf16) pads_S176x480400_S176x494080_000_0136800 h_S_) shapeCasts_S176x494080_S176x3088x160 := by
  show W7 m ρ c (Proc.devRef .tc main_v2) = _
  after_results
  rfl

theorem v7_v18 (c : Dev nD) : V7 m ρ c main_v18 = broadcastInDim S1x400 ![1] bcast_S400_S1x400_1 winK := by
  show W7 m ρ c (Proc.devRef .tc main_v18) = _
  after_results
  rfl

theorem v7_v12 (c : Dev nD) : V7 m ρ c main_v12 = transpose S201x400 [1, 0]
    (extractStridedSlice S400x201 ![0, 0] (m ((c.tc : Thread nD τ).loc main_arg1)) slices_S400x402_S400x201_0_0) transposes_S400x201_S201x400_1_0 := by
  show W7 m ρ c (Proc.devRef .tc main_v12) = _
  after_results

theorem v7_v14 (c : Dev nD) : V7 m ρ c main_v14 = transpose S201x400 [1, 0]
    (extractStridedSlice S400x201 ![0, 201] (m ((c.tc : Thread nD τ).loc main_arg1)) slices_S400x402_S400x201_0_201) transposes_S400x201_S201x400_1_0 := by
  show W7 m ρ c (Proc.devRef .tc main_v14) = _
  after_results

theorem v7_v17 (c : Dev nD) : V7 m ρ c main_v17
    = shapeCast S416x1 (pad S2x208 ![0, 0] ![0, 7] ![0, 0] (shapeCast S2x201 (m ((c.tc : Thread nD τ).loc main_arg2)) shapeCasts_S402_S2x201 : FVec Ideal S2x201 .f32)
        (sitofp .f32 (constantI S_ 32 0#32) : FVec Ideal S_ .f32) pads_S2x201_S2x208_000_070 h_S_) shapeCasts_S2x208_S416x1 := by
  show W7 m ρ c (Proc.devRef .tc main_v17) = _
  after_results
  rfl

theorem v7_v19 (c : Dev nD) : V7 m ρ c main_v19 = broadcastInDim S128x1 ![0] bcast_S128_S128x1_0 (m ((c.tc : Thread nD τ).loc main_arg4)) := by
  show W7 m ρ c (Proc.devRef .tc main_v19) = _
  after_results

theorem v7_arg3 (c : Dev nD) : V7 m ρ c main_arg3 = m ((c.tc : Thread nD τ).loc main_arg3) := W7_args m ρ c _ (by decide)

end Cert.KernelIdeal.Value

end
-- ==== Proof.FrameK.lean ====
module

public import proofs.«01_k».proof.Proof.Host
public import proofs.«01_k».proof.Proof.Arrays

@[expose] public section

set_option maxRecDepth 16384

noncomputable section

namespace Cert.KernelIdeal.Value

open Cert.KernelIdeal Cert.KernelIdeal.Gen
open Idealize.ShloMosaic Idealize.ShloMosaic.TcCoe Idealize.SL.Sem

/-- Sample `n` of frame `t` of batch entry `b`: the padded sample `160 t + n` times the window. -/
def frK (x : FVec Ideal S176x480000 .bf16) (b : Fin 176) (t : Fin 3000) (n : Fin 400) : EReal :=
  padK x (ix2 b ⟨160 * t.val + n.val, by omega⟩) * winK (ix1 n)

/-- The padded samples cut into rows of 160, read at the place of sample `n` of frame `t`. -/
theorem cut_at (P : FVec Ideal S176x480400 .bf16) (z : FVec Ideal S_ .bf16) (b : Fin 176) (t : Fin 3000) (n : Fin 400) :
    shapeCast S176x3088x160 (pad S176x494080 ![0, 0] ![0, 13680] ![0, 0] P z pads_S176x480400_S176x494080_000_0136800 h_S_)
      shapeCasts_S176x494080_S176x3088x160 (ix3 b ⟨t.val + n.val / 160, by omega⟩ ⟨n.val % 160, by omega⟩)
      = P (ix2 b ⟨160 * t.val + n.val, by omega⟩) := by
  have h : (t.val + n.val / 160) * 160 + n.val % 160 = 160 * t.val + n.val := by omega
  pointwise [hlo_ix]
  rw [dif_pos (by omega)]
  exact congrArg (fun k => P (ix2 b k)) (Fin.ext h)

theorem win_at (w : FVec Ideal S400 .f32) (n : Fin 400) : broadcastInDim S1x400 ![1] bcast_S400_S1x400_1 w (ix2 0 n) = w (ix1 n) := by
  pointwise [hlo_ix]

theorem wre_at (w : FVec Ideal S400x402 .fp8e4m3) (f : Fin 201) (k : Fin 400) :
    transpose S201x400 [1, 0] (extractStridedSlice S400x201 ![0, 0] w slices_S400x402_S400x201_0_0) transposes_S400x201_S201x400_1_0 (ix2 f k)
      = w (ix2 k ⟨f.val, by omega⟩) := by
  pointwise [hlo_ix]

theorem wim_at (w : FVec Ideal S400x402 .fp8e4m3) (f : Fin 201) (k : Fin 400) :
    transpose S201x400 [1, 0] (extractStridedSlice S400x201 ![0, 201] w slices_S400x402_S400x201_0_201) transposes_S400x201_S201x400_1_0 (ix2 f k)
      = w (ix2 k ⟨201 + f.val, by omega⟩) := by
  pointwise [hlo_ix]

theorem ws_lo (w : FVec Ideal S402 .f32) (z : FVec Ideal S_ .f32) (f : Fin 201) :
    shapeCast S416x1 (pad S2x208 ![0, 0] ![0, 7] ![0, 0] (shapeCast S2x201 w shapeCasts_S402_S2x201 : FVec Ideal S2x201 .f32) z
      pads_S2x201_S2x208_000_070 h_S_) shapeCasts_S2x208_S416x1 (ix2 ⟨f.val, by omega⟩ 0) = w (ix1 ⟨f.val, by omega⟩) := by
  pointwise [hlo_ix]
  rw [dif_pos (by omega)]
  exact congrArg (fun k => w (ix1 k)) (Fin.ext (by show f.val / 208 * 201 + f.val % 208 = f.val; omega))

theorem ws_hi (w : FVec Ideal S402 .f32) (z : FVec Ideal S_ .f32) (f : Fin 201) :
    shapeCast S416x1 (pad S2x208 ![0, 0] ![0, 7] ![0, 0] (shapeCast S2x201 w shapeCasts_S402_S2x201 : FVec Ideal S2x201 .f32) z
      pads_S2x201_S2x208_000_070 h_S_) shapeCasts_S2x208_S416x1 (ix2 ⟨208 + f.val, by omega⟩ 0) = w (ix1 ⟨201 + f.val, by omega⟩) := by
  pointwise [hlo_ix]
  rw [dif_pos (by omega)]
  exact congrArg (fun k => w (ix1 k)) (Fin.ext (by show (208 + f.val) / 208 * 201 + (208 + f.val) % 208 = 201 + f.val; omega))

theorem ms_at (w : FVec Ideal S128 .f32) (g : Fin 128) : broadcastInDim S128x1 ![0] bcast_S128_S128x1_0 w (ix2 g 0) = w (ix1 g) := by
  pointwise [hlo_ix]

variable (m : (ℓ : Loc nD τ sig) → Buf (Elt Ideal) ℓ) (ρ : Dev nD → PrngReg)

/-- Every frame that the first launch computes on is that frame of the samples. -/
theorem frame_at (c : Dev nD) (b : Fin 176) (t : Fin 3000) :
    frameOf (bX (V7 m ρ c main_v2) b) (V7 m ρ c main_v18) ⟨t.val, by omega⟩ = frK (m ((c.tc : Thread nD τ).loc main_arg0)) b t := by
  funext n
  rw [v7_v2, v7_v18]
  exact congrArg₂ (· * ·) (cut_at _ _ b t n) (win_at _ n)

/-- The base-2 logarithm that the launch takes of mel filter `g`'s energy, times `log10 2`, from the program's arguments. -/
def yK (a0 : FVec Ideal S176x480000 .bf16) (a1 : FVec Ideal S400x402 .fp8e4m3) (a2 : FVec Ideal S402 .f32) (a3 : FVec Ideal S128x201 .fp8e4m3)
    (a4 : FVec Ideal S128 .f32) (b : Fin 176) (t : Fin 3000) (g : Fin 128) : EReal :=
  rowLog (fun f k => a1 (ix2 k ⟨f.val, by omega⟩)) (fun f k => a1 (ix2 k ⟨201 + f.val, by omega⟩)) (fun g f => a3 (ix2 g f))
    (fun f => a2 (ix1 ⟨f.val, by omega⟩)) (fun f => a2 (ix1 ⟨201 + f.val, by omega⟩)) (fun g => a4 (ix1 g)) (frK a0 b t) g * invLn2 * log10_2

theorem y_at (c : Dev nD) (b : Fin 176) (t : Fin 3000) (g : Fin 128) :
    yOf (bX (V7 m ρ c main_v2) b) (V7 m ρ c main_v18) (V7 m ρ c main_v12) (V7 m ρ c main_v14) (V7 m ρ c main_v17) (V7 m ρ c main_arg3) (V7 m ρ c main_v19)
      ⟨t.val, by omega⟩ g
      = yK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b t g := by
  unfold yOf yK
  rw [frame_at, v7_v12, v7_v14, v7_v17, v7_v19, v7_arg3]
  have e1 := wre_at (m ((c.tc : Thread nD τ).loc main_arg1))
  have e2 := wim_at (m ((c.tc : Thread nD τ).loc main_arg1))
  have e3 := ms_at (m ((c.tc : Thread nD τ).loc main_arg4))
  simp only [ws_lo, ws_hi]
  refine congrArg (· * invLn2 * log10_2) ?_
  congr 1
  · exact funext fun f => funext fun k => e1 f k
  · exact funext fun f => funext fun k => e2 f k
  · exact funext e3

end Cert.KernelIdeal.Value

end
-- ==== Proof.KernelOut.lean ====
module

public import proofs.«01_k».proof.Proof.KernelEnd
public import proofs.«01_k».proof.Proof.FrameK

@[expose] public section

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The log-mel values of device `c`'s arguments. -/
abbrev yM (c : Dev nD) : Fin 176 → Fin 3000 → Fin 128 → EReal :=
  yK (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Code `n` of frame `t` of batch entry `b`. -/
theorem codes_at (c : Dev nD) (b : Fin 176) (t : Fin 3000) (n : Fin 400) :
    W11 m ρ c (Proc.devRef .tc main_v20_1) (ix3 b t n) = rowCode (frK (m ((c.tc : Thread nD τ).loc main_arg0)) b t) n := by
  rw [end_codes, ← frame_at m ρ c b t]
  rfl

theorem drop_unit (s : FVec Ideal S176x1x3000 .f32) (b : Fin 176) (t : Fin 3000) :
    shapeCast S176x3000 s shapeCasts_S176x1x3000_S176x3000 (ix2 b t) = s (ix3 b 0 t) := by
  pointwise []

/-- The scale of frame `t` of batch entry `b`. -/
theorem scales_at (c : Dev nD) (b : Fin 176) (t : Fin 3000) :
    W11 m ρ c (Proc.devRef .tc main_v30) (ix2 b t) = rowScl (frK (m ((c.tc : Thread nD τ).loc main_arg0)) b t) := by
  rw [end_scales, ← frame_at m ρ c b t]
  exact drop_unit _ b t

/-- The greatest of an array of partial maxima. -/
def topOf (P : FVec Ideal S176x8x128 .f32) : EReal :=
  Host.reduce (FloatOps.maximumf (F := Ideal) (φ := .f32)) P (constant S_ .f32 0xFF800000#32 : FVec Ideal S_ .f32) reducesTo_S176x8x128_S_d0_1_2 h_S_ (fun a => a.elim0)

theorem topOf_le (P : FVec Ideal S176x8x128 .f32) (z : EReal) : topOf P ≤ z ↔ ∀ i, P i ≤ z := by
  have h : topOf P = Finset.fold max (Ideal.ofBits FTy.f32 0xFF800000#32) P
      (Finset.univ.filter fun i => (reducesTo_S176x8x128_S_d0_1_2).drop i = fun a => a.elim0) :=
    Shape.foldl_filter_rowMajor_eq_fold (α := EReal) _ max _ _ _
  rw [h, Finset.fold_max_le, negInf]
  exact ⟨fun h i => h.2 i (Finset.mem_filter.mpr ⟨Finset.mem_univ _, funext fun a => a.elim0⟩), fun h => ⟨bot_le, fun i _ => h i⟩⟩

/-- The threshold from the greatest value. -/
theorem thr_gen (x : FVec Ideal S_ .f32) :
    shapeCast S1x1 (Host.divf (F := Ideal) (addf (subf x (constant S_ .f32 0x41000000#32)) (constant S_ .f32 0x40800000#32)) (constant S_ .f32 0x40800000#32) : FVec Ideal S_ .f32)
      shapeCasts_S_S1x1 (ix2 0 0)
      = Ideal.div (x (fun a => a.elim0) - Ideal.ofBits FTy.f32 0x41000000#32 + Ideal.ofBits FTy.f32 0x40800000#32) (Ideal.ofBits FTy.f32 0x40800000#32) := by
  have h : ∀ v : FVec Ideal S_ .f32, shapeCast S1x1 v shapeCasts_S_S1x1 (ix2 0 0) = v (fun a => a.elim0) :=
    fun v => congrArg v (funext fun a => a.elim0)
  rw [h]
  rfl

/-- The greatest log-mel value, as the partial maxima and the host's maximum give it. -/
def topK (c : Dev nD) : EReal :=
  topOf (A10 (V7 m ρ c main_v2) (V7 m ρ c main_v18) (V7 m ρ c main_v12) (V7 m ρ c main_v14) (V7 m ρ c main_v17) (V7 m ρ c main_arg3) (V7 m ρ c main_v19))

/-- It is the least upper bound of the log-mel values of all frames and bands. -/
theorem topK_le (c : Dev nD) (z : EReal) : topK m ρ c ≤ z ↔ ∀ b t g, yM m c b t g ≤ z := by
  unfold topK
  rw [topOf_le]
  constructor
  · intro h b t g
    refine le_trans ?_ (h (ix3 b ⟨g.val % 8, by omega⟩ ⟨t.val % 128, by omega⟩))
    unfold yM
    rw [← y_at m ρ c b t g]
    exact le_iSup_of_le (⟨⟨t.val, by omega⟩, t.isLt, rfl⟩ : {s : Fin 3072 // s.val < 3000 ∧ s.val % 128 = t.val % 128})
      (le_iSup_of_le (⟨g, rfl⟩ : {s : Fin 128 // s.val % 8 = g.val % 8}) le_rfl)
  · intro h i
    refine iSup_le fun t => iSup_le fun g => ?_
    have e := y_at m ρ c (i 0) ⟨t.1.val, t.2.1⟩ g.1
    exact (le_of_eq e).trans (h (i 0) ⟨t.1.val, t.2.1⟩ g.1)

/-- Value `(b, g, t)` of the first result. -/
theorem out_at (c : Dev nD) (b : Fin 176) (g : Fin 128) (t : Fin 3000) :
    W11 m ρ c (Proc.devRef .tc main_v26) (ix3 b g t)
      = max (Ideal.div (yM m c b t g + Ideal.ofBits FTy.f32 0x40800000#32) (Ideal.ofBits FTy.f32 0x40800000#32))
          (Ideal.div (topK m ρ c - Ideal.ofBits FTy.f32 0x41000000#32 + Ideal.ofBits FTy.f32 0x40800000#32) (Ideal.ofBits FTy.f32 0x40800000#32)) := by
  rw [end_out, end_blocks, end_thr]
  refine congrArg₂ (max : EReal → EReal → EReal) ?_ (thr_gen _)
  have e := y_at m ρ c b t g
  exact congrArg (fun y : EReal => Ideal.div (y + Ideal.ofBits FTy.f32 0x40800000#32) (Ideal.ofBits FTy.f32 0x40800000#32)) e

end Cert.KernelIdeal.Value

end
-- ==== Proof.RefHost.lean ====
module

public import proofs.«01_k».proof.Proof.Gen.ReferenceIdeal.Frame
public import Idealize.ShloMosaic.Lib.Claim
public import Idealize.ShloMosaic.Lib.Pipeline.ValueKit

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

variable (m : (ℓ : Loc nD τ sig) → Buf (Elt Ideal) ℓ)

/-- The window as the reference's host code computes it: `0.5 * (1 - cos (n * κ))`. -/
def winR : FVec Ideal S400 .f32 :=
  mulf (broadcastInDim S400 ![] bcast_S_S400 (constant S_ .f32 0x3F000000#32))
    (subf (broadcastInDim S400 ![] bcast_S_S400 (constant S_ .f32 0x3F800000#32))
      (Host.cos (mulf (sitofp .f32 (iotaInDim S400 32 0)) (broadcastInDim S400 ![] bcast_S_S400 (constant S_ .f32 0x3C80ADFD#32)))))

/-- The reflect padding of the samples by 200 on either side: first the left side, -/
def padLR (x : FVec Ideal S176x480000 .f32) : FVec Ideal S176x480200 .f32 :=
  concatenate S176x480200 1 [⟨S176x200, Host.reverse [1] (extractStridedSlice S176x200 ![0, 1] x slices_S176x480000_S176x200_0_1)⟩,
    ⟨S176x480000, x⟩] concatenates_S176x200_S176x480000_S176x480200_d1
/-- then the right side. -/
def padR (x : FVec Ideal S176x480000 .f32) : FVec Ideal S176x480400 .f32 :=
  concatenate S176x480400 1 [⟨S176x480200, padLR x⟩,
    ⟨S176x200, Host.reverse [1] (extractStridedSlice S176x200 ![0, 479999] (padLR x) slices_S176x480200_S176x200_0_479999)⟩]
    concatenates_S176x480200_S176x200_S176x480400_d1

/-- The sample index `160 t + n` of sample `n` of frame `t`, as a word. -/
def idxR0 : IVec S3000x400 32 :=
  addi (broadcastInDim S3000x400 ![0, 1] bcast_S3000x1_S3000x400_0_1
      (muli (broadcastInDim S3000x1 ![0] bcast_S3000_S3000x1_0 (iotaInDim S3000 32 0)) (broadcastInDim S3000x1 ![] bcast_S_S3000x1 (constantI S_ 32 160#32))))
    (broadcastInDim S3000x400 ![0, 1] bcast_S1x400_S3000x400_0_1 (broadcastInDim S1x400 ![1] bcast_S400_S1x400_1 (iotaInDim S400 32 0)))
/-- The same with a negative index counted from the end (there is none). -/
def idxR : IVec S3000x400 32 :=
  select (cmpi .slt idxR0 (broadcastInDim S3000x400 ![] bcast_S_S3000x400 (constantI S_ 32 0#32)))
    (addi idxR0 (broadcastInDim S3000x400 ![] bcast_S_S3000x400 (constantI S_ 32 480400#32))) idxR0

/-- The memory after the first two stretches of host operations. -/
abbrev U (c : Dev nD) : Valuation τ sig (Elt Ideal) :=
  StableHlo.after (hostOps0_1 (F := Ideal)) (StableHlo.after (hostOps0 (F := Ideal)) (fun b => m (c, b)))

theorem V_eq (c : Dev nD) (b : Ref sig .tc) : V m c b = StableHlo.after (hostOps0_2 (F := Ideal)) (U m c) (Proc.devRef .tc b) := by
  unfold V
  simp only [List.flatten_cons, List.flatten_nil, List.append_nil, StableHlo.after_append]

theorem u_v1 (c : Dev nD) : U m c (Proc.devRef .tc main_v1)
    = padR ((extf .f32 · bitsLt_bf16_f32) (m ((c.tc : Thread nD τ).loc main_arg0))) := by
  after_results
  rfl

theorem v_v17 (c : Dev nD) : V m c main_v17
    = Host.gather gather_S176x480400_S3000x400x1_S176x3000x400_0_1_n_n_1_2_1761
        (padR ((extf .f32 · bitsLt_bf16_f32) (m ((c.tc : Thread nD τ).loc main_arg0))))
        (broadcastInDim S3000x400x1 ![0, 1] bcast_S3000x400_S3000x400x1_0_1 idxR) := by
  rw [V_eq]
  have h := u_v1 m c
  generalize U m c = W at h
  after_results
  rw [h]; rfl

theorem v_v26 (c : Dev nD) : V m c main_v26 = broadcastInDim S1x1x400 ![2] bcast_S400_S1x1x400_2 winR := by
  rw [V_eq]
  generalize U m c = W
  after_results
  rfl

theorem v_v27 (c : Dev nD) : V m c main_v27 = broadcastInDim S1x402 ![1] bcast_S402_S1x402_1 (m ((c.tc : Thread nD τ).loc main_arg2)) := by
  rw [V_eq]
  have h : U m c (Proc.devRef .tc main_arg2) = m ((c.tc : Thread nD τ).loc main_arg2) := by after_results
  generalize U m c = W at h
  after_results
  rw [h]

theorem v_v28 (c : Dev nD) : V m c main_v28 = broadcastInDim S128x1 ![0] bcast_S128_S128x1_0 (m ((c.tc : Thread nD τ).loc main_arg4)) := by
  rw [V_eq]
  have h : U m c (Proc.devRef .tc main_arg4) = m ((c.tc : Thread nD τ).loc main_arg4) := by after_results
  generalize U m c = W at h
  after_results
  rw [h]

end Cert.ReferenceIdeal.Value

end
-- ==== Proof.RefRows.lean ====
module

public import proofs.«01_k».proof.Proof.Gen.ReferenceIdeal.Skeleton
public import proofs.«01_k».proof.Proof.Rows
public import Idealize.ShloMosaic.Lib.Pointwise

@[expose] public section

set_option maxRecDepth 16384

noncomputable section

/-! What the reference computes for one frame, as plain functions of the frame's 400 windowed samples, and the payloads of the
    reference's body read at an index as those functions. -/

namespace Cert.ReferenceIdeal.Value

open Cert.ReferenceIdeal Cert.ReferenceIdeal.Gen
open Cert.KernelIdeal.Value (rowS)
open Idealize.ShloMosaic Idealize.ShloMosaic.TcCoe Idealize.SL.Sem

/-- The named constants `1 / ln 2` and `1 / ln 10` as the reference writes them. -/
abbrev invLn2R : Ideal .f32 := Named.named κ "inv_ln2" 0x3FB8AA3B#32
abbrev invLn10R : Ideal .f32 := Named.named κ "inv_ln10" 0x3EDE5BD9#32

/-- The reference's exponent of a scale `s`: `⌊log₂ s⌋ + 1`, and zero below the least normal number. -/
def expR (s : EReal) : EReal :=
  Scalar.select (BitVec.ofBool (decide (s < Ideal.ofBits FTy.f32 0x00800000#32))) (Ideal.ofBits FTy.f32 0x00000000#32)
    (FloatOps.floor (F := Ideal) (φ := .f32) (Ideal.log s * invLn2R) + Ideal.ofBits FTy.f32 0x3F800000#32)

/-- The reference's quantised sample. -/
def codeR (v : Fin 400 → EReal) (n : Fin 400) : EReal :=
  min (Ideal.ofBits FTy.f32 0x43E00000#32) (max (Ideal.ofBits FTy.f32 0xC3E00000#32)
    (v n * Ideal.exp2 (Ideal.ofBits FTy.f32 0x00000000#32 - expR (rowS v))))

/-- The reference's scale. -/
def sclR (v : Fin 400 → EReal) : EReal := Ideal.exp2 (expR (rowS v))

/-- A windowed frame of the reference: row `r` is frame `r % 3000` of signal `r / 3000`. -/
def frameR (x0 : Vec Ideal S176x3000x400 .f32) (x1 : Vec Ideal S1x1x400 .f32) (b : Fin 176) (t : Fin 3000) : Fin 400 → EReal := fun n =>
  x0 (ix3 b t n) * x1 (ix3 0 0 n)

/-- Column `f` of the scaled spectrum of a frame. -/
def specR (w : Fin 400 → Fin 402 → EReal) (ws : Fin 402 → EReal) (v : Fin 400 → EReal) (f : Fin 402) : EReal :=
  (∑ k, codeR v k * w k f) * sclR v * ws f

/-- The natural logarithm of the floored mel energy `g` of a frame. -/
def rowLogR (w : Fin 400 → Fin 402 → EReal) (ws : Fin 402 → EReal) (mel : Fin 128 → Fin 201 → EReal) (ms : Fin 128 → EReal)
    (v : Fin 400 → EReal) (g : Fin 128) : EReal :=
  Ideal.log (max ((∑ f : Fin 201, mel g f *
      (specR w ws v ⟨f.val, by omega⟩ * specR w ws v ⟨f.val, by omega⟩
        + specR w ws v ⟨201 + f.val, by omega⟩ * specR w ws v ⟨201 + f.val, by omega⟩)) * ms g)
    (Ideal.ofBits FTy.f32 0x2EDBE6FF#32))

/-! ## The reference's operations at an index, over any operands -/

theorem max_gen (v : FVec Ideal S528000x400 .f32) (r : Fin 528000) :
    multiReduction (F := Ideal) .maximumf [1] S528000 (absf v) 0xFF800000#32 reduces_S528000x400_S528000 (.inl rfl) rfl (ix1 r)
      = Finset.fold max (Ideal.ofBits FTy.f32 0xFF800000#32) (fun x => FloatOps.absf (F := Ideal) (φ := .f32) (v (ix2 r x))) Finset.univ := by
  pointwise []

theorem scale_gen (m : FVec Ideal S528000 .f32) (r : Fin 528000) :
    (mulf (shapeCast S528000x1 m shapeCasts_S528000_S528000x1) (broadcast S528000x1 (Scalar.ofBits .f32 0x3B124925#32)) : FVec Ideal S528000x1 .f32) (ix2 r 0)
      = m (ix1 r) * Ideal.ofBits FTy.f32 0x3B124925#32 := by
  pointwise []

theorem exp_gen (s : FVec Ideal S528000x1 .f32) (r : Fin 528000) :
    (select (cmpf .olt s (broadcast S528000x1 (Scalar.ofBits .f32 0x00800000#32))) (broadcast S528000x1 (Scalar.ofBits .f32 0x00000000#32))
      (addf (floor (mulf (log s) (broadcast S528000x1 (Named.named κ "inv_ln2" 0x3FB8AA3B#32)))) (broadcast S528000x1 (Scalar.ofBits .f32 0x3F800000#32))) : FVec Ideal S528000x1 .f32) (ix2 r 0)
      = expR (s (ix2 r 0)) := rfl

theorem code_gen (v : FVec Ideal S528000x400 .f32) (w : FVec Ideal S528000x1 .f32) (r : Fin 528000) (n : Fin 400) :
    (truncf .fp8e4m3 (minimumf (broadcast S528000x400 (Scalar.ofBits .f32 0x43E00000#32)) (maximumf (broadcast S528000x400 (Scalar.ofBits .f32 0xC3E00000#32))
      (mulf v (broadcastTo S528000x400 (exp2 (subf (broadcast S528000x1 (Scalar.ofBits .f32 0x00000000#32)) w)) broadcasts_S528000x1_S528000x400)))) bitsLt_fp8e4m3_f32
        : FVec Ideal S528000x400 .fp8e4m3) (ix2 r n)
      = min (Ideal.ofBits FTy.f32 0x43E00000#32) (max (Ideal.ofBits FTy.f32 0xC3E00000#32)
        (v (ix2 r n) * Ideal.exp2 (Ideal.ofBits FTy.f32 0x00000000#32 - w (ix2 r 0)))) := by
  pointwise []
  try rfl

theorem exp2_gen (v : FVec Ideal S528000x1 .f32) (r : Fin 528000) : exp2 v (ix2 r 0) = Ideal.exp2 (v (ix2 r 0)) := rfl

theorem codes_gen (v : FVec Ideal S528000x400 .fp8e4m3) (b : Fin 176) (t : Fin 3000) (n : Fin 400) :
    shapeCast S176x3000x400 v shapeCasts_S528000x400_S176x3000x400 (ix3 b t n) = v (ix2 ⟨b.val * 3000 + t.val, by omega⟩ n) := by
  pointwise []

theorem scales_gen (v : FVec Ideal S528000x1 .f32) (b : Fin 176) (t : Fin 3000) :
    shapeCast S176x3000 v shapeCasts_S528000x1_S176x3000 (ix2 b t) = v (ix2 ⟨b.val * 3000 + t.val, by omega⟩ 0) := by
  pointwise []

theorem dot1_gen (v : FVec Ideal S528000x400 .fp8e4m3) (w : FVec Ideal S400x402 .fp8e4m3) (r : Fin 528000) (f : Fin 402) :
    matmul dot_S528000x400_S400x402_S528000x402_1_0_0_1_n_n none v w (constant S528000x402 .f32 0x00000000#32) (ix2 r f) =
      ∑ k, v (ix2 r k) * w (ix2 k f) := by
  pointwise []

theorem spec_gen (z : FVec Ideal S528000x402 .f32) (s : FVec Ideal S528000x1 .f32) (ws : FVec Ideal S1x402 .f32) (r : Fin 528000) (f : Fin 402) :
    (mulf (mulf z (broadcastTo S528000x402 s broadcasts_S528000x1_S528000x402))
      (broadcastTo S528000x402 (shapeCast S1x402 ws shapeCasts_S1x402_S1x402) broadcasts_S1x402_S528000x402) : FVec Ideal S528000x402 .f32) (ix2 r f)
      = z (ix2 r f) * s (ix2 r 0) * ws (ix2 0 f) := by
  pointwise []

theorem power_gen (z : FVec Ideal S528000x402 .f32) (r : Fin 528000) (f : Fin 201) :
    (truncf .bf16 (addf
      (mulf (extractStridedSlice S528000x201 ![0, 0] z slices_S528000x402_o0_0_S528000x201) (extractStridedSlice S528000x201 ![0, 0] z slices_S528000x402_o0_0_S528000x201))
      (mulf (extractStridedSlice S528000x201 ![0, 201] z slices_S528000x402_o0_201_S528000x201) (extractStridedSlice S528000x201 ![0, 201] z slices_S528000x402_o0_201_S528000x201)))
        bitsLt_bf16_f32 : FVec Ideal S528000x201 .bf16) (ix2 r f)
      = z (ix2 r ⟨f.val, by omega⟩) * z (ix2 r ⟨f.val, by omega⟩) + z (ix2 r ⟨201 + f.val, by omega⟩) * z (ix2 r ⟨201 + f.val, by omega⟩) := by
  pointwise []

theorem dot2_gen (v : FVec Ideal S128x201 .fp8e4m3) (w : FVec Ideal S528000x201 .bf16) (r : Fin 528000) (g : Fin 128) :
    matmul dot_S128x201_S528000x201_S128x528000_1_1_0_0_n_n none (extf .bf16 v bitsLt_fp8e4m3_bf16 : FVec Ideal S128x201 .bf16) w (constant S128x528000 .f32 0x00000000#32) (ix2 g r) =
      ∑ f, v (ix2 g f) * w (ix2 r f) := by
  pointwise []

theorem log_gen (z : FVec Ideal S128x528000 .f32) (ms : FVec Ideal S128x1 .f32) (g : Fin 128) (r : Fin 528000) :
    (mulf (log (maximumf (mulf z (broadcastTo S128x528000 (shapeCast S128x1 ms shapeCasts_S128x1_S128x1) broadcasts_S128x1_S128x528000))
      (broadcast S128x528000 (Scalar.ofBits .f32 0x2EDBE6FF#32)))) (broadcast S128x528000 (Named.named κ "inv_ln10" 0x3EDE5BD9#32)) : FVec Ideal S128x528000 .f32) (ix2 g r)
      = Ideal.log (max (z (ix2 g r) * ms (ix2 g 0)) (Ideal.ofBits FTy.f32 0x2EDBE6FF#32)) * invLn10R := by
  pointwise []
  try rfl

theorem fold_gen (z : FVec Ideal S128x528000 .f32) :
    extractAt ![0, 0, 0] (shapeCast S1x1x1 (multiReduction (F := Ideal) .maximumf [1, 2] S1 (shapeCast S1x128x528000 z shapeCasts_S128x528000_S1x128x528000)
      0xFF800000#32 reduces_S1x128x528000_S1 (.inl rfl) rfl) shapeCasts_S1_S1x1x1) inpos_S1x1x1_p0_0_0
      = Finset.fold max (Ideal.ofBits FTy.f32 0xFF800000#32) (fun x : Fin 128 × Fin 528000 => z (ix2 x.1 x.2)) Finset.univ := by
  pointwise []

theorem out_gen (y : FVec Ideal S128x528000 .f32) (M : Ideal .f32) (b : Fin 176) (g : Fin 128) (t : Fin 3000) :
    transpose S176x128x3000 [1, 0, 2] (shapeCast S128x176x3000
      (truncf .bf16 (divf (addf (maximumf y (broadcast S128x528000 (Scalar.subf M (Scalar.ofBits .f32 0x41000000#32)))) (broadcast S128x528000 (Scalar.ofBits .f32 0x40800000#32)))
        (broadcast S128x528000 (Scalar.ofBits .f32 0x40800000#32))) bitsLt_bf16_f32 : FVec Ideal S128x528000 .bf16)
      shapeCasts_S128x528000_S128x176x3000) transposes_S128x176x3000_p1_0_2_S176x128x3000 (ix3 b g t)
      = Ideal.div (max (y (ix2 g ⟨b.val * 3000 + t.val, by omega⟩)) (M - Ideal.ofBits FTy.f32 0x41000000#32) + Ideal.ofBits FTy.f32 0x40800000#32)
          (Ideal.ofBits FTy.f32 0x40800000#32) := by
  pointwise []
  try rfl

/-! ## The payloads -/

section
variable (x0 : Vec Ideal S176x3000x400 .f32) (x1 : Vec Ideal S1x1x400 .f32)

/-- Row `r` of the frames: frame `r % 3000` of signal `r / 3000`. -/
abbrev rowAt (r : Fin 528000) : Fin 400 → EReal := frameR x0 x1 ⟨r.val / 3000, by omega⟩ ⟨r.val % 3000, by omega⟩

theorem rowAt_mk (b : Fin 176) (t : Fin 3000) : rowAt x0 x1 ⟨b.val * 3000 + t.val, by omega⟩ = frameR x0 x1 b t := by
  unfold rowAt
  congr 1 <;> apply Fin.ext <;> simp only <;> omega

theorem rpay2_at (r : Fin 528000) (n : Fin 400) : k0_pay2 x0 x1 (ix2 r n) = rowAt x0 x1 r n := by
  pointwise [k0_pay2, rowAt, frameR]

theorem rpay3_at (r : Fin 528000) : k0_pay3 x0 x1 (ix2 r 0) = expR (rowS (rowAt x0 x1 r)) := by
  have h := rpay2_at x0 x1 r
  unfold k0_pay3
  generalize k0_pay2 x0 x1 = v at h ⊢
  refine (exp_gen _ r).trans (congrArg expR ?_)
  refine (scale_gen _ r).trans ?_
  rw [max_gen]
  simp only [h]
  rfl

theorem rpay4_at (r : Fin 528000) (n : Fin 400) : k0_pay4 x0 x1 (ix2 r n) = codeR (rowAt x0 x1 r) n := by
  have h := rpay2_at x0 x1 r
  have h' := rpay3_at x0 x1 r
  unfold k0_pay4
  generalize k0_pay2 x0 x1 = v at h ⊢
  generalize k0_pay3 x0 x1 = w at h' ⊢
  refine (code_gen v w r n).trans ?_
  rw [h, h']
  rfl

theorem rpay5_at (r : Fin 528000) : k0_pay5 x0 x1 (ix2 r 0) = sclR (rowAt x0 x1 r) := by
  have h' := rpay3_at x0 x1 r
  unfold k0_pay5
  generalize k0_pay3 x0 x1 = w at h' ⊢
  refine (exp2_gen w r).trans ?_
  rw [h']
  rfl

theorem rpay6_at (b : Fin 176) (t : Fin 3000) (n : Fin 400) : k0_pay6 x0 x1 (ix3 b t n) = codeR (frameR x0 x1 b t) n := by
  have h := rpay4_at x0 x1 ⟨b.val * 3000 + t.val, by omega⟩ n
  rw [rowAt_mk] at h
  unfold k0_pay6
  generalize k0_pay4 x0 x1 = v at h ⊢
  exact (codes_gen v b t n).trans h

theorem rpay7_at (b : Fin 176) (t : Fin 3000) : k0_pay7 x0 x1 (ix2 b t) = sclR (frameR x0 x1 b t) := by
  have h := rpay5_at x0 x1 ⟨b.val * 3000 + t.val, by omega⟩
  rw [rowAt_mk] at h
  unfold k0_pay7
  generalize k0_pay5 x0 x1 = v at h ⊢
  exact (scales_gen v b t).trans h

variable (x2 : Vec Ideal S400x402 .fp8e4m3) (x3 : Vec Ideal S1x402 .f32) (x4 : Vec Ideal S128x201 .fp8e4m3) (x5 : Vec Ideal S128x1 .f32)

/-- The log-mel energy `g` of row `v`, to base ten. -/
def yR (v : Fin 400 → EReal) (g : Fin 128) : EReal :=
  rowLogR (fun k f => x2 (ix2 k f)) (fun f => x3 (ix2 0 f)) (fun g f => x4 (ix2 g f)) (fun g => x5 (ix2 g 0)) v g * invLn10R

/-- The scaled spectrum of all rows, as the reference's operations compute it. -/
def specV (c : FVec Ideal S528000x400 .fp8e4m3) (s : FVec Ideal S528000x1 .f32) (x2 : FVec Ideal S400x402 .fp8e4m3) (x3 : FVec Ideal S1x402 .f32) :
    FVec Ideal S528000x402 .f32 :=
  mulf (mulf (matmul dot_S528000x400_S400x402_S528000x402_1_0_0_1_n_n none c x2 (constant S528000x402 .f32 0x00000000#32))
      (broadcastTo S528000x402 s broadcasts_S528000x1_S528000x402))
    (broadcastTo S528000x402 (shapeCast S1x402 x3 shapeCasts_S1x402_S1x402) broadcasts_S1x402_S528000x402)

/-- The log-mel energies of all rows, as the reference's operations compute them. -/
def logV (z : FVec Ideal S528000x402 .f32) (x4 : FVec Ideal S128x201 .fp8e4m3) (x5 : FVec Ideal S128x1 .f32) : FVec Ideal S128x528000 .f32 :=
  mulf (log (maximumf (mulf
      (matmul dot_S128x201_S528000x201_S128x528000_1_1_0_0_n_n none (extf .bf16 x4 bitsLt_fp8e4m3_bf16 : FVec Ideal S128x201 .bf16)
        (truncf .bf16 (addf
          (mulf (extractStridedSlice S528000x201 ![0, 0] z slices_S528000x402_o0_0_S528000x201) (extractStridedSlice S528000x201 ![0, 0] z slices_S528000x402_o0_0_S528000x201))
          (mulf (extractStridedSlice S528000x201 ![0, 201] z slices_S528000x402_o0_201_S528000x201) (extractStridedSlice S528000x201 ![0, 201] z slices_S528000x402_o0_201_S528000x201)))
        bitsLt_bf16_f32 : FVec Ideal S528000x201 .bf16) (constant S128x528000 .f32 0x00000000#32))
      (broadcastTo S128x528000 (shapeCast S128x1 x5 shapeCasts_S128x1_S128x1) broadcasts_S128x1_S128x528000))
      (broadcast S128x528000 (Scalar.ofBits .f32 0x2EDBE6FF#32)))) (broadcast S128x528000 (Named.named κ "inv_ln10" 0x3EDE5BD9#32))

theorem pay8_gen (c : FVec Ideal S528000x400 .fp8e4m3) (s : FVec Ideal S528000x1 .f32) (b : Fin 176) (g : Fin 128) (t : Fin 3000) :
    k0_pay8 c s x2 x3 x4 x5 (ix3 b g t)
      = Ideal.div (max (logV (specV c s x2 x3) x4 x5 (ix2 g ⟨b.val * 3000 + t.val, by omega⟩))
          (Finset.fold max (Ideal.ofBits FTy.f32 0xFF800000#32) (fun x : Fin 128 × Fin 528000 => logV (specV c s x2 x3) x4 x5 (ix2 x.1 x.2)) Finset.univ
            - Ideal.ofBits FTy.f32 0x41000000#32) + Ideal.ofBits FTy.f32 0x40800000#32)
          (Ideal.ofBits FTy.f32 0x40800000#32) := by
  unfold k0_pay8
  refine (out_gen (logV (specV c s x2 x3) x4 x5) _ b g t).trans ?_
  exact congrArg (fun M : EReal => Ideal.div (max (logV (specV c s x2 x3) x4 x5 (ix2 g ⟨b.val * 3000 + t.val, by omega⟩))
      (M - Ideal.ofBits FTy.f32 0x41000000#32) + Ideal.ofBits FTy.f32 0x40800000#32) (Ideal.ofBits FTy.f32 0x40800000#32))
    (fold_gen (logV (specV c s x2 x3) x4 x5))

theorem logV_at (c : FVec Ideal S528000x400 .fp8e4m3) (s : FVec Ideal S528000x1 .f32)
    (h4 : ∀ r n, c (ix2 r n) = codeR (rowAt x0 x1 r) n) (h5 : ∀ r, s (ix2 r 0) = sclR (rowAt x0 x1 r)) (g : Fin 128) (r : Fin 528000) :
    logV (specV c s x2 x3) x4 x5 (ix2 g r) = yR x2 x3 x4 x5 (rowAt x0 x1 r) g := by
  have hs : ∀ f, specV c s x2 x3 (ix2 r f) = specR (fun k f => x2 (ix2 k f)) (fun f => x3 (ix2 0 f)) (rowAt x0 x1 r) f := by
    intro f
    refine (spec_gen _ s x3 r f).trans ?_
    rw [dot1_gen c x2 r f, h5]
    simp only [h4]
    rfl
  generalize specV c s x2 x3 = z at hs ⊢
  refine (log_gen _ x5 g r).trans ?_
  rw [dot2_gen x4 _ r g]
  simp only [power_gen, hs]
  rfl

/-- The reference's first result at an index. -/
theorem rpay8_at (b : Fin 176) (g : Fin 128) (t : Fin 3000) :
    k0_pay8 (k0_pay4 x0 x1) (k0_pay5 x0 x1) x2 x3 x4 x5 (ix3 b g t)
      = Ideal.div (max (yR x2 x3 x4 x5 (frameR x0 x1 b t) g)
          (Finset.fold max (Ideal.ofBits FTy.f32 0xFF800000#32) (fun x : Fin 128 × Fin 528000 => yR x2 x3 x4 x5 (rowAt x0 x1 x.2) x.1) Finset.univ
            - Ideal.ofBits FTy.f32 0x41000000#32) + Ideal.ofBits FTy.f32 0x40800000#32)
          (Ideal.ofBits FTy.f32 0x40800000#32) := by
  have h := logV_at x0 x1 x2 x3 x4 x5 _ _ (rpay4_at x0 x1) (rpay5_at x0 x1)
  refine (pay8_gen x2 x3 x4 x5 _ _ b g t).trans ?_
  simp only [h, rowAt_mk]

end

end Cert.ReferenceIdeal.Value

end
-- ==== Proof.RefEnd.lean ====
module

public import proofs.«01_k».proof.Proof.RefHost
public import proofs.«01_k».proof.Proof.RefRows

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-! ## Every block is its whole array -/

theorem ridx0 (t : Fin cfg0.N) : ∀ a, win0_0.index t a = 0 := by
  intro a; rfl
theorem riblk0 (c : Dev nD) (t : Fin cfg0.N) : iblk m c 0 t = V m c main_v17 := by
  funext j; blk_simp [iblk]; refine congrArg (V m c main_v17) ?_; blk_ext <;> rw [ridx0] <;> omega

theorem ridx1 (t : Fin cfg0.N) : ∀ a, win0_1.index t a = 0 := by
  intro a; rfl
theorem riblk1 (c : Dev nD) (t : Fin cfg0.N) : iblk m c 1 t = V m c main_v26 := by
  funext j; blk_simp [iblk]; refine congrArg (V m c main_v26) ?_; blk_ext <;> rw [ridx1] <;> omega

theorem ridx2 (t : Fin cfg0.N) : ∀ a, win0_2.index t a = 0 := by
  intro a; rfl
theorem riblk2 (c : Dev nD) (t : Fin cfg0.N) : iblk m c 2 t = V m c main_arg1 := by
  funext j; blk_simp [iblk]; refine congrArg (V m c main_arg1) ?_; blk_ext <;> rw [ridx2] <;> omega

theorem ridx3 (t : Fin cfg0.N) : ∀ a, win0_3.index t a = 0 := by
  intro a; rfl
theorem riblk3 (c : Dev nD) (t : Fin cfg0.N) : iblk m c 3 t = V m c main_v27 := by
  funext j; blk_simp [iblk]; refine congrArg (V m c main_v27) ?_; blk_ext <;> rw [ridx3] <;> omega

theorem ridx4 (t : Fin cfg0.N) : ∀ a, win0_4.index t a = 0 := by
  intro a; rfl
theorem riblk4 (c : Dev nD) (t : Fin cfg0.N) : iblk m c 4 t = V m c main_arg3 := by
  funext j; blk_simp [iblk]; refine congrArg (V m c main_arg3) ?_; blk_ext <;> rw [ridx4] <;> omega

theorem ridx5 (t : Fin cfg0.N) : ∀ a, win0_5.index t a = 0 := by
  intro a; rfl
theorem riblk5 (c : Dev nD) (t : Fin cfg0.N) : iblk m c 5 t = V m c main_v28 := by
  funext j; blk_simp [iblk]; refine congrArg (V m c main_v28) ?_; blk_ext <;> rw [ridx5] <;> omega

theorem hz2 : (![0, 0] : Fin 2 → ℕ) = fun _ => 0 := by decide
theorem hz3 : (![0, 0, 0] : Fin 3 → ℕ) = fun _ => 0 := by decide

/-! ## What the body leaves in its four outputs, over any blocks -/

variable (x0 : Vec Ideal S176x3000x400 .f32) (x1 : Vec Ideal S1x1x400 .f32) (x2 : Vec Ideal S400x402 .fp8e4m3) (x3 : Vec Ideal S1x402 .f32)
  (x4 : Vec Ideal S128x201 .fp8e4m3) (x5 : Vec Ideal S128x1 .f32)

theorem rout8 : out0_8 (F := Ideal) x0 x1 x2 x3 x4 x5 = k0_pay6 x0 x1 := by
  unfold out0_8
  rw [View.canon_unit_zero (S := S176x3000x400) hz3]
  rw [View.ld_unit_zero (S := S176x3000x400) hz3]
  rw [View.ld_unit_zero (S := S1x1x400) hz3]

theorem rout9 : out0_9 (F := Ideal) x0 x1 x2 x3 x4 x5 = k0_pay7 x0 x1 := by
  unfold out0_9
  rw [View.canon_unit_zero (S := S176x3000) hz2]
  rw [View.ld_unit_zero (S := S176x3000x400) hz3]
  rw [View.ld_unit_zero (S := S1x1x400) hz3]

theorem rout6 : out0_6 (F := Ideal) x0 x1 x2 x3 x4 x5 = k0_pay8 (k0_pay4 x0 x1) (k0_pay5 x0 x1) x2 x3 x4 x5 := by
  unfold out0_6 k0_pay9 k0_pay10
  rw [View.canon_unit_zero (S := S176x128x3000) hz3]
  rw [View.ld_unit_zero (S := S176x3000x400) hz3]
  rw [View.ld_unit_zero (S := S1x1x400) hz3]
  rw [View.ld_unit_zero (S := S400x402) hz2]
  rw [View.ld_unit_zero (S := S1x402) hz2]
  rw [View.ld_unit_zero (S := S128x201) hz2]
  rw [View.ld_unit_zero (S := S128x1) hz2]

theorem rout7 : out0_7 (F := Ideal) x0 x1 x2 x3 x4 x5 = k0_pay1 (k0_pay8 (k0_pay4 x0 x1) (k0_pay5 x0 x1) x2 x3 x4 x5) := by
  rw [← rout6]
  unfold out0_7 out0_6
  rw [View.canon_unit_zero (S := S176x128x3) hz3]
  rw [View.canon_unit_zero (S := S176x128x3000) hz3]

/-! ## The four result arrays -/

theorem ridx8 (t : Fin cfg0.N) : ∀ a, win0_8.index t a = 0 := by
  intro a; rfl
theorem rarr8 (c : Dev nD) : (dats m 0 c).arrAt 8 cfg0.N = k0_pay6 (V m c main_v17) (V m c main_v26) := by
  refine (dats m 0 c).arrAt_eq_of_after_last 8 t0_0 (by decide +kernel) _ fun j => ?_
  blk_simp
  rw [after0_8, riblk0, riblk1, riblk2, riblk3, riblk4, riblk5, rout8]

theorem ridx9 (t : Fin cfg0.N) : ∀ a, win0_9.index t a = 0 := by
  intro a; rfl
theorem rarr9 (c : Dev nD) : (dats m 0 c).arrAt 9 cfg0.N = k0_pay7 (V m c main_v17) (V m c main_v26) := by
  refine (dats m 0 c).arrAt_eq_of_after_last 9 t0_0 (by decide +kernel) _ fun j => ?_
  blk_simp
  rw [after0_9, riblk0, riblk1, riblk2, riblk3, riblk4, riblk5, rout9]

theorem ridx6 (t : Fin cfg0.N) : ∀ a, win0_6.index t a = 0 := by
  intro a; rfl
theorem rarr6 (c : Dev nD) : (dats m 0 c).arrAt 6 cfg0.N = (k0_pay8 (k0_pay4 (V m c main_v17) (V m c main_v26)) (k0_pay5 (V m c main_v17) (V m c main_v26)) (V m c main_arg1) (V m c main_v27) (V m c main_arg3) (V m c main_v28)) := by
  refine (dats m 0 c).arrAt_eq_of_after_last 6 t0_0 (by decide +kernel) _ fun j => ?_
  blk_simp
  rw [after0_6, riblk0, riblk1, riblk2, riblk3, riblk4, riblk5, rout6]

theorem ridx7 (t : Fin cfg0.N) : ∀ a, win0_7.index t a = 0 := by
  intro a; rfl
theorem rarr7 (c : Dev nD) : (dats m 0 c).arrAt 7 cfg0.N = k0_pay1 (k0_pay8 (k0_pay4 (V m c main_v17) (V m c main_v26)) (k0_pay5 (V m c main_v17) (V m c main_v26)) (V m c main_arg1) (V m c main_v27) (V m c main_arg3) (V m c main_v28)) := by
  refine (dats m 0 c).arrAt_eq_of_after_last 7 t0_0 (by decide +kernel) _ fun j => ?_
  blk_simp
  rw [after0_7, riblk0, riblk1, riblk2, riblk3, riblk4, riblk5, rout7]

end Cert.ReferenceIdeal.Value

end
-- ==== Proof.FrameR.lean ====
module

public import proofs.«01_k».proof.Proof.RefHost
public import proofs.«01_k».proof.Proof.RefRows

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- Sample `n` of frame `t` of batch entry `b`: the padded sample `160 t + n` times the window. -/
def frR (x : FVec Ideal S176x480000 .f32) (b : Fin 176) (t : Fin 3000) (n : Fin 400) : EReal :=
  padR x (ix2 b ⟨160 * t.val + n.val, by omega⟩) * winR (ix1 n)

theorem win_at (w : FVec Ideal S400 .f32) (n : Fin 400) : broadcastInDim S1x1x400 ![2] bcast_S400_S1x1x400_2 w (ix3 0 0 n) = w (ix1 n) := by
  pointwise [hlo_ix]
theorem ws_at (w : FVec Ideal S402 .f32) (f : Fin 402) : broadcastInDim S1x402 ![1] bcast_S402_S1x402_1 w (ix2 0 f) = w (ix1 f) := by
  pointwise [hlo_ix]
theorem ms_at (w : FVec Ideal S128 .f32) (g : Fin 128) : broadcastInDim S128x1 ![0] bcast_S128_S128x1_0 w (ix2 g 0) = w (ix1 g) := by
  pointwise [hlo_ix]

/-- The start index of sample `n` of frame `t` is the number `160 t + n`. -/
theorem idx_word (t : Fin 3000) (n : Fin 400) : idxR0 (ix2 t n) = BitVec.ofNat 32 (160 * t.val + n.val) := by
  have h : idxR0 (ix2 t n) = BitVec.ofNat 32 t.val * 160#32 + BitVec.ofNat 32 n.val := by
    pointwise [idxR0, hlo_ix]
    rfl
  rw [h]
  apply BitVec.eq_of_toNat_eq
  simp only [BitVec.toNat_add, BitVec.toNat_mul, BitVec.toNat_ofNat]
  omega

theorem idx_at (t : Fin 3000) (n : Fin 400) : (idxR (ix2 t n)).toInt.toNat = 160 * t.val + n.val := by
  have hn : 160 * t.val + n.val < 480400 := by omega
  have hi : (BitVec.ofNat 32 (160 * t.val + n.val)).toInt = ((160 * t.val + n.val : ℕ) : ℤ) := by
    rw [BitVec.toInt_eq_toNat_of_lt (by rw [BitVec.toNat_ofNat]; omega), BitVec.toNat_ofNat, Nat.mod_eq_of_lt (by omega)]
  have h : idxR (ix2 t n) = Scalar.select (IntOp.cmpi .slt (idxR0 (ix2 t n)) 0#32) (IntOp.addi (idxR0 (ix2 t n)) 480400#32) (idxR0 (ix2 t n)) := by
    unfold idxR
    generalize idxR0 = I
    pointwise [hlo_ix]
  rw [h, idx_word]
  have hc : IntOp.cmpi .slt (BitVec.ofNat 32 (160 * t.val + n.val)) 0#32 = 0#1 := by
    show BitVec.ofBool (BitVec.slt _ _) = 0#1
    have : BitVec.slt (BitVec.ofNat 32 (160 * t.val + n.val)) 0#32 = false := by
      unfold BitVec.slt
      rw [hi]
      simp
      omega
    rw [this]; rfl
  rw [hc, ValueIdx.select_zero, hi, Int.toNat_natCast]

/-- The gather reads, for frame `t` and sample `n` of batch entry `b`, the padded sample at the start index. -/
theorem gather_at (P : FVec Ideal S176x480400 .f32) (idx : IVec S3000x400x1 32) (b : Fin 176) (t : Fin 3000) (n : Fin 400) :
    Host.gather gather_S176x480400_S3000x400x1_S176x3000x400_0_1_n_n_1_2_1761 P idx (ix3 b t n)
      = P (ix2 b ⟨min (idx (ix3 t n 0)).toInt.toNat (480400 - 1), by omega⟩) := by
  unfold Host.gather
  congr 1
  funext a
  refine Fin.ext ?_
  have h01 : a = 0 ∨ a = 1 := by
    match a with
    | ⟨0, _⟩ => exact Or.inl rfl
    | ⟨1, _⟩ => exact Or.inr rfl
  generalize hG : gather_S176x480400_S3000x400x1_S176x3000x400_0_1_n_n_1_2_1761 = G
  show G.start (ix3 b t n) idx a + G.batchCoord (ix3 b t n) a + G.offCoord (ix3 b t n) a = _
  subst hG
  rw [GatherDims.batchCoord_eq_zero _ _ _ List.not_mem_nil]
  rcases h01 with rfl | rfl
  · unfold GatherDims.start
    rw [dif_neg (by show ¬ (0 : Fin 2) ∈ [(1 : Fin 2)]; decide)]
    simp only [Nat.zero_add, Nat.add_zero]
    unfold GatherDims.offCoord
    rw [dif_pos (by show (0 : Fin 2) ∈ _; decide)]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S176x480400_S3000x400x1_S176x3000x400_0_1_n_n_1_2_1761.startIndexMap from List.mem_singleton.mpr rfl)]
    have hsi : gather_S176x480400_S3000x400x1_S176x3000x400_0_1_n_n_1_2_1761.siIdx (ix3 b t n) ⟨List.idxOf (1 : Fin 2) [(1 : Fin 2)],
        List.idxOf_lt_length_iff.2 (List.mem_singleton.mpr rfl)⟩ = ix3 t n 0 := by
      funext b; refine Fin.ext ?_
      match b with
      | ⟨0, _⟩ => rfl
      | ⟨1, _⟩ => rfl
      | ⟨2, _⟩ => rfl
    exact congrArg (fun z => min (idx z).toInt.toNat (480400 - 1)) hsi

theorem idx3_at (I : IVec S3000x400 32) (t : Fin 3000) (n : Fin 400) :
    broadcastInDim S3000x400x1 ![0, 1] bcast_S3000x400_S3000x400x1_0_1 I (ix3 t n 0) = I (ix2 t n) := by
  pointwise [hlo_ix]

variable (m : (ℓ : Loc nD τ sig) → Buf (Elt Ideal) ℓ)

/-- Every frame that the reference computes on is that frame of the samples. -/
theorem frame_at (c : Dev nD) (b : Fin 176) (t : Fin 3000) :
    frameR (V m c main_v17) (V m c main_v26) b t = frR (m ((c.tc : Thread nD τ).loc main_arg0)) b t := by
  funext n
  unfold frameR frR
  rw [v_v17, v_v26, win_at, gather_at]
  refine congrArg (· * winR (ix1 n)) (congrArg (padR _) ?_)
  refine congrArg (ix2 b) (Fin.ext ?_)
  show min _ _ = _
  rw [idx3_at, idx_at]
  show min _ _ = 160 * t.val + n.val
  omega

/-- The base-10 logarithm of mel filter `g`'s energy, from the program's arguments. -/
def yA (a0 : FVec Ideal S176x480000 .f32) (a1 : FVec Ideal S400x402 .fp8e4m3) (a2 : FVec Ideal S402 .f32) (a3 : FVec Ideal S128x201 .fp8e4m3)
    (a4 : FVec Ideal S128 .f32) (b : Fin 176) (t : Fin 3000) (g : Fin 128) : EReal :=
  rowLogR (fun k f => a1 (ix2 k f)) (fun f => a2 (ix1 f)) (fun g f => a3 (ix2 g f)) (fun g => a4 (ix1 g)) (frR a0 b t) g * invLn10R

theorem y_at (c : Dev nD) (b : Fin 176) (t : Fin 3000) (g : Fin 128) :
    yR (V m c main_arg1) (V m c main_v27) (V m c main_arg3) (V m c main_v28) (frR (m ((c.tc : Thread nD τ).loc main_arg0)) b t) g
      = yA (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b t g := by
  unfold yR yA
  rw [v_v27, v_v28, V_main_arg1, V_main_arg3]
  have e1 := ws_at (m ((c.tc : Thread nD τ).loc main_arg2))
  have e2 := ms_at (m ((c.tc : Thread nD τ).loc main_arg4))
  refine congrArg (· * invLn10R) ?_
  congr 1
  · exact funext e1
  · exact funext e2

end Cert.ReferenceIdeal.Value

end
-- ==== Proof.RefOut.lean ====
module

public import proofs.«01_k».proof.Proof.RefEnd
public import proofs.«01_k».proof.Proof.FrameR

@[expose] public section

set_option maxRecDepth 16384

noncomputable section

namespace Cert.ReferenceIdeal.Value

open Cert.ReferenceIdeal Cert.ReferenceIdeal.Gen
open Cert.KernelIdeal.Value (negInf)
open Idealize.ShloMosaic Idealize.ShloMosaic.TcCoe Idealize.SL.Sem

variable (m : (ℓ : Loc nD τ sig) → Buf (Elt Ideal) ℓ)

/-- The log-mel values of device `c`'s arguments. -/
abbrev yN (c : Dev nD) : Fin 176 → Fin 3000 → Fin 128 → EReal :=
  yA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Code `n` of frame `t` of batch entry `b`. -/
theorem codes_at (c : Dev nD) (b : Fin 176) (t : Fin 3000) (n : Fin 400) :
    (dats m 0 c).arrAt 8 cfg0.N (ix3 b t n) = codeR (frR (m ((c.tc : Thread nD τ).loc main_arg0)) b t) n := by
  rw [rarr8, ← frame_at m c b t]
  exact rpay6_at _ _ b t n

/-- The scale of frame `t` of batch entry `b`. -/
theorem scales_at (c : Dev nD) (b : Fin 176) (t : Fin 3000) :
    (dats m 0 c).arrAt 9 cfg0.N (ix2 b t) = sclR (frR (m ((c.tc : Thread nD τ).loc main_arg0)) b t) := by
  rw [rarr9, ← frame_at m c b t]
  exact rpay7_at _ _ b t

/-- The greatest log-mel value. -/
def topR (c : Dev nD) : EReal :=
  Finset.fold max (Ideal.ofBits FTy.f32 0xFF800000#32) (fun x : Fin 128 × Fin 528000 =>
    yR (V m c main_arg1) (V m c main_v27) (V m c main_arg3) (V m c main_v28) (rowAt (V m c main_v17) (V m c main_v26) x.2) x.1) Finset.univ

/-- It is the least upper bound of the log-mel values of all frames and bands. -/
theorem topR_le (c : Dev nD) (z : EReal) : topR m c ≤ z ↔ ∀ b t g, yN m c b t g ≤ z := by
  unfold topR
  rw [Finset.fold_max_le, negInf]
  have e : ∀ b t g, yR (V m c main_arg1) (V m c main_v27) (V m c main_arg3) (V m c main_v28) (frameR (V m c main_v17) (V m c main_v26) b t) g
      = yN m c b t g := by
    intro b t g
    rw [frame_at m c b t]
    exact y_at m c b t g
  constructor
  · rintro ⟨-, h⟩ b t g
    have h1 := h (g, ⟨b.val * 3000 + t.val, by omega⟩) (Finset.mem_univ _)
    dsimp only at h1
    rw [rowAt_mk, e] at h1
    exact h1
  · intro h
    refine ⟨bot_le, fun x _ => ?_⟩
    exact (le_of_eq (e _ _ _)).trans (h ⟨x.2.val / 3000, by omega⟩ ⟨x.2.val % 3000, by omega⟩ x.1)

/-- Value `(b, g, t)` of the first result. -/
theorem out_at (c : Dev nD) (b : Fin 176) (g : Fin 128) (t : Fin 3000) :
    (dats m 0 c).arrAt 6 cfg0.N (ix3 b g t)
      = Ideal.div (max (yN m c b t g) (topR m c - Ideal.ofBits FTy.f32 0x41000000#32) + Ideal.ofBits FTy.f32 0x40800000#32)
          (Ideal.ofBits FTy.f32 0x40800000#32) := by
  rw [rarr6]
  refine (rpay8_at _ _ _ _ _ _ b g t).trans ?_
  rw [frame_at m c b t, y_at]
  rfl

/-- The second result takes three columns of the first. -/
theorem edge_eq (c : Dev nD) : (dats m 0 c).arrAt 7 cfg0.N = k0_pay1 (F := Ideal) ((dats m 0 c).arrAt 6 cfg0.N) := by
  rw [rarr7, rarr6]

end Cert.ReferenceIdeal.Value

end
-- ==== Proof.Scale.lean ====
module

public import proofs.«01_k».proof.Proof.RefRows

@[expose] public section

set_option maxRecDepth 16384

noncomputable section

namespace Cert.Equation

open Cert.KernelIdeal.Value Cert.ReferenceIdeal.Value
open Idealize.ShloMosaic

/-- The number whose pattern is `n <<< 23`. -/
abbrev pw (n : BitVec 32) : EReal := Ideal.ofBits FTy.f32 (IntOp.shli ArithUnit.vector n 23#32)

theorem pw_bits : ∀ x : Fin 256, ((IntOp.shli ArithUnit.vector (BitVec.ofNat 32 x.val) 23#32).extractLsb' 31 1 == 1#1) = false
    ∧ ((IntOp.shli ArithUnit.vector (BitVec.ofNat 32 x.val) 23#32).extractLsb' 23 8).toNat = x.val
    ∧ ((IntOp.shli ArithUnit.vector (BitVec.ofNat 32 x.val) 23#32).extractLsb' 0 23).toNat = 0 := by decide

/-- The pattern `0` is zero, -/
theorem pw_zero : pw (BitVec.ofNat 32 0) = 0 := by
  obtain ⟨h1, h2, h3⟩ := pw_bits 0
  simp only [Fin.val_zero] at h1 h2 h3
  simp only [pw, Ideal.ofBits, Ideal.ieee, h1, h2, h3]
  simp
/-- the pattern `n <<< 23` is `2 ^ (n - 127)` for `n` from 1 to 254, -/
theorem pw_val (n : ℕ) (h : 1 ≤ n) (h' : n ≤ 254) : pw (BitVec.ofNat 32 n) = (((2 : ℝ) ^ ((n : ℤ) - 127) : ℝ) : EReal) := by
  obtain ⟨h1, h2, h3⟩ := pw_bits ⟨n, by omega⟩
  simp only at h1 h2 h3
  simp only [pw, Ideal.ofBits, Ideal.ieee, h1, h2, h3]
  rw [if_neg (by omega), if_neg (by omega)]
  refine congrArg Real.toEReal ?_
  simp only [Bool.false_eq_true, if_false, one_mul]
  have e : ((n : ℤ) - (2 ^ (8 - 1) - 1) - (23 : ℕ)) = ((n : ℤ) - 127) - 23 := by norm_num
  rw [e, zpow_sub₀ (by norm_num : (2 : ℝ) ≠ 0) ((n : ℤ) - 127) 23]
  norm_num
  ring
/-- and the last is infinity. -/
theorem pw_top : pw (BitVec.ofNat 32 255) = ⊤ := by
  obtain ⟨h1, h2, h3⟩ := pw_bits 255
  have e : ((255 : Fin 256) : ℕ) = 255 := rfl
  rw [e] at h1 h2 h3
  simp only [pw, Ideal.ofBits, Ideal.ieee, h1, h2, h3]
  simp

theorem fold_addi (f : Fin 256 → ℕ) (S : Finset (Fin 256)) :
    Finset.fold IntOp.addi (0#32) (fun x => BitVec.ofNat 32 (f x)) S = BitVec.ofNat 32 (∑ x ∈ S, f x) := by
  induction S using Finset.induction_on with
  | empty => rfl
  | insert a S ha ih =>
    rw [Finset.fold_insert ha, Finset.sum_insert ha, ih]
    exact (BitVec.ofNat_add _ _).symm

/-- When exactly the patterns up to `K` do not exceed `s`, their count is `K + 1`. -/
theorem cnt_of {s : EReal} (K : Fin 256) (h : ∀ x : Fin 256, pw (BitVec.ofNat 32 x.val) ≤ s ↔ x ≤ K) :
    cntS s = BitVec.ofNat 32 (K.val + 1) := by
  unfold cntS
  have e : (fun x : Fin 256 => BitVec.setWidth 32 (BitVec.ofBool (decide
      (Ideal.ofBits FTy.f32 (IntOp.shli ArithUnit.vector (BitVec.ofNat 32 x.val) 23#32) ≤ s))))
      = fun x => BitVec.ofNat 32 (if x ≤ K then 1 else 0) := by
    funext x
    have hx := h x
    by_cases hk : x ≤ K
    · rw [if_pos hk, decide_eq_true (hx.mpr hk)]; rfl
    · rw [if_neg hk, decide_eq_false (fun hh => hk (hx.mp hh))]; rfl
  rw [e, fold_addi]
  refine congrArg (BitVec.ofNat 32) ?_
  rw [Finset.sum_boole]
  have : (Finset.univ.filter fun x : Fin 256 => x ≤ K) = Finset.Iic K := by ext; simp
  rw [this, Fin.card_Iic]
  simp

theorem inv_word : ∀ K : Fin 253, IntOp.subi 127#32 (expC (BitVec.ofNat 32 (K.val + 1))) = BitVec.ofNat 32 (if K.val = 0 then 127 else 253 - K.val) := by decide
theorem scl_word : ∀ K : Fin 253, IntOp.addi 127#32 (expC (BitVec.ofNat 32 (K.val + 1))) = BitVec.ofNat 32 (if K.val = 0 then 127 else K.val + 1) := by decide

/-- The exponent that belongs to the biased exponent `K`. -/
def expK (K : ℕ) : ℤ := if K = 0 then 0 else (K : ℤ) - 126

theorem invC_of (K : Fin 253) : invC (BitVec.ofNat 32 (K.val + 1)) = (((2 : ℝ) ^ (-expK K.val) : ℝ) : EReal) := by
  unfold invC
  rw [inv_word]
  refine (pw_val _ (by split_ifs <;> omega) (by split_ifs <;> omega)).trans ?_
  congr 2
  unfold expK
  split_ifs <;> omega
theorem sclC_of (K : Fin 253) : sclC (BitVec.ofNat 32 (K.val + 1)) = (((2 : ℝ) ^ (expK K.val) : ℝ) : EReal) := by
  unfold sclC
  rw [scl_word]
  refine (pw_val _ (by split_ifs <;> omega) (by split_ifs <;> omega)).trans ?_
  congr 2
  unfold expK
  split_ifs <;> omega

theorem minNormal : Ideal.ofBits FTy.f32 0x00800000#32 = (((2 : ℝ) ^ (-126 : ℤ) : ℝ) : EReal) := pw_val 1 le_rfl (by norm_num)
theorem zero_f32 : Ideal.ofBits FTy.f32 0x00000000#32 = 0 := pw_zero
theorem one_f32 : Ideal.ofBits FTy.f32 0x3F800000#32 = ((1 : ℝ) : EReal) := by
  refine (pw_val 127 (by norm_num) (by norm_num)).trans ?_
  norm_num

theorem invLn2R_eq : invLn2R = (((Real.log 2)⁻¹ : ℝ) : EReal) := IdealRules.named_const.ideal_named_scalar _ _ _ _ rfl

/-- The binary logarithm rounded down. -/
def ilog (r : ℝ) : ℤ := ⌊Real.log r * (Real.log 2)⁻¹⌋

theorem zpow_le_iff {r : ℝ} (hr : 0 < r) (z : ℤ) : (2 : ℝ) ^ z ≤ r ↔ z ≤ ilog r := by
  have h2 : 0 < Real.log 2 := Real.log_pos (by norm_num)
  unfold ilog
  rw [Int.le_floor, ← div_eq_mul_inv, le_div_iff₀ h2, ← Real.log_zpow, Real.log_le_log_iff (by positivity) hr]

/-- A scale in range has a biased exponent `K`: it is the number of nonzero powers of two up to the scale, and the reference's exponent is
    the one that belongs to it. -/
theorem exists_exp {s : EReal} (h0 : 0 ≤ s) (h1 : s < (((2 : ℝ) ^ (126 : ℤ) : ℝ) : EReal)) :
    ∃ K : Fin 253, cntS s = BitVec.ofNat 32 (K.val + 1) ∧ expR s = (((expK K.val : ℤ) : ℝ) : EReal) := by
  induction s using EReal.rec with
  | bot => exact absurd h0 (by simp)
  | top => exact absurd h1 (by simp)
  | coe r =>
    have hr0 : 0 ≤ r := by exact_mod_cast h0
    have hr1 : r < (2 : ℝ) ^ (126 : ℤ) := by exact_mod_cast h1
    by_cases hs : r < (2 : ℝ) ^ (-126 : ℤ)
    · refine ⟨0, cnt_of 0 ?_, ?_⟩
      · intro x
        by_cases hx : x = 0
        · subst hx
          have : pw (BitVec.ofNat 32 ((0 : Fin 256) : ℕ)) = 0 := pw_zero
          rw [this]
          exact ⟨fun _ => le_rfl, fun _ => h0⟩
        · have hx1 : 1 ≤ x.val := by
            have : x.val ≠ 0 := fun h => hx (Fin.ext h)
            omega
          refine ⟨fun h => absurd h (not_le.mpr ?_), fun h => absurd (Fin.le_zero_iff.mp h) hx⟩
          by_cases h5 : x.val = 255
          · rw [h5, pw_top]; exact EReal.coe_lt_top r
          · rw [pw_val x.val hx1 (by omega)]
            refine EReal.coe_lt_coe_iff.mpr (lt_of_lt_of_le hs ?_)
            exact zpow_le_zpow_right₀ (by norm_num) (by omega)
      · unfold expR
        rw [minNormal, decide_eq_true (EReal.coe_lt_coe_iff.mpr hs), zero_f32]
        show (0 : EReal) = _
        simp [expK]
    · have hs' : (2 : ℝ) ^ (-126 : ℤ) ≤ r := not_lt.mp hs
      have hrp : 0 < r := lt_of_lt_of_le (by positivity) hs'
      have hlo : (-126 : ℤ) ≤ ilog r := (zpow_le_iff hrp _).mp hs'
      have hhi : ilog r < 126 := not_le.mp fun h => not_le.mpr hr1 ((zpow_le_iff hrp _).mpr h)
      obtain ⟨k, hk⟩ : ∃ k : ℕ, ilog r + 127 = k := ⟨(ilog r + 127).toNat, by omega⟩
      refine ⟨⟨k, by omega⟩, cnt_of ⟨k, by omega⟩ ?_, ?_⟩
      · intro x
        rw [Fin.le_def]
        show _ ↔ x.val ≤ k
        by_cases hx : x.val = 0
        · rw [hx, pw_zero]
          exact ⟨fun _ => by omega, fun _ => h0⟩
        · by_cases h5 : x.val = 255
          · rw [h5, pw_top]
            exact ⟨fun h => absurd (top_le_iff.mp h) (EReal.coe_ne_top r), fun h => by omega⟩
          · rw [pw_val x.val (by omega) (by omega), EReal.coe_le_coe_iff]
            refine (zpow_le_iff hrp _).trans ?_
            omega
      · unfold expR
        rw [minNormal, decide_eq_false (by rw [EReal.coe_lt_coe_iff]; exact hs), one_f32, invLn2R_eq]
        have hl : Ideal.log (r : EReal) = ((Real.log r : ℝ) : EReal) := by
          show (if r ≤ 0 then (⊥ : EReal) else _) = _
          rw [if_neg (not_le.mpr hrp)]
        rw [hl, ← EReal.coe_mul]
        show (((⌊Real.log r * (Real.log 2)⁻¹⌋ : ℤ) : ℝ) : EReal) + ((1 : ℝ) : EReal) = _
        rw [show ⌊Real.log r * (Real.log 2)⁻¹⌋ = ilog r from rfl, ← EReal.coe_add]
        refine congrArg Real.toEReal ?_
        have : expK k = ilog r + 1 := by
          unfold expK
          rw [if_neg (by omega)]
          omega
        rw [this]
        push_cast
        ring

theorem exp2_int (e : ℤ) : Ideal.exp2 ((((e : ℤ) : ℝ)) : EReal) = (((2 : ℝ) ^ e : ℝ) : EReal) := by
  show ((Real.rpow 2 (e : ℝ) : ℝ) : EReal) = _
  refine congrArg Real.toEReal ?_
  exact Real.rpow_intCast 2 e

/-- The powers of two that the kernel assembles from bits are those of the reference, for every scale in range. -/
theorem inv_eq {s : EReal} (h0 : 0 ≤ s) (h1 : s < (((2 : ℝ) ^ (126 : ℤ) : ℝ) : EReal)) :
    invC (cntS s) = Ideal.exp2 (Ideal.ofBits FTy.f32 0x00000000#32 - expR s) := by
  obtain ⟨K, hc, he⟩ := exists_exp h0 h1
  rw [hc, he, invC_of, zero_f32, zero_sub, ← EReal.coe_neg, ← Int.cast_neg, exp2_int]
theorem scl_eq {s : EReal} (h0 : 0 ≤ s) (h1 : s < (((2 : ℝ) ^ (126 : ℤ) : ℝ) : EReal)) : sclC (cntS s) = Ideal.exp2 (expR s) := by
  obtain ⟨K, hc, he⟩ := exists_exp h0 h1
  rw [hc, he, sclC_of, exp2_int]

theorem scale_const : Ideal.ofBits FTy.f32 0x3B124925#32 = ((9586981 * (2 : ℝ) ^ (-32 : ℤ) : ℝ) : EReal) := by
  simp [Ideal.ofBits, Ideal.ieee, -EReal.coe_mul]

/-- The magnitudes of a frame stay below `2 ^ 128`, so its scale is in range. -/
theorem rowS_range (v : Fin 400 → EReal) (hv : ∀ n, max (v n) (-(v n)) ≤ (((2 : ℝ) ^ (128 : ℤ) : ℝ) : EReal)) :
    0 ≤ rowS v ∧ rowS v < (((2 : ℝ) ^ (126 : ℤ) : ℝ) : EReal) := by
  unfold rowS
  rw [negInf, scale_const]
  have hM : Finset.fold max (⊥ : EReal) (fun x => FloatOps.absf (F := Ideal) (φ := .f32) (v x)) Finset.univ ≤ (((2 : ℝ) ^ (128 : ℤ) : ℝ) : EReal) :=
    Finset.fold_max_le _ |>.mpr ⟨bot_le, fun x _ => hv x⟩
  have h0 : (0 : EReal) ≤ Finset.fold max (⊥ : EReal) (fun x => FloatOps.absf (F := Ideal) (φ := .f32) (v x)) Finset.univ := by
    refine (Finset.le_fold_max _).mpr (Or.inr ⟨0, Finset.mem_univ _, ?_⟩)
    show (0 : EReal) ≤ max (v 0) (-(v 0))
    rcases le_total 0 (v 0) with h | h
    · exact le_max_of_le_left h
    · exact le_max_of_le_right (EReal.neg_nonneg.mpr h)
  have hc : (0 : EReal) ≤ ((9586981 * (2 : ℝ) ^ (-32 : ℤ) : ℝ) : EReal) := by
    exact_mod_cast (by positivity : (0 : ℝ) ≤ 9586981 * (2 : ℝ) ^ (-32 : ℤ))
  refine ⟨mul_nonneg h0 hc, lt_of_le_of_lt (mul_le_mul_of_nonneg_right hM hc) ?_⟩
  rw [← EReal.coe_mul, EReal.coe_lt_coe_iff]
  norm_num

/-- So the codes and the scale of a frame in range are the same on both sides. -/
theorem code_eq (v : Fin 400 → EReal) (hv : ∀ n, max (v n) (-(v n)) ≤ (((2 : ℝ) ^ (128 : ℤ) : ℝ) : EReal)) (n : Fin 400) :
    rowCode v n = codeR v n := by
  unfold rowCode codeR
  rw [inv_eq (rowS_range v hv).1 (rowS_range v hv).2]
theorem scale_eq (v : Fin 400 → EReal) (hv : ∀ n, max (v n) (-(v n)) ≤ (((2 : ℝ) ^ (128 : ℤ) : ℝ) : EReal)) : rowScl v = sclR v :=
  scl_eq (rowS_range v hv).1 (rowS_range v hv).2

end Cert.Equation

end
-- ==== Proof.Range.lean ====
module

public import proofs.«01_k».proof.Pre_finite
public import proofs.«01_k».proof.Proof.FrameK
public import proofs.«01_k».proof.Proof.Scale

@[expose] public section

set_option maxRecDepth 16384

noncomputable section

namespace Cert.Equation

open Cert.KernelIdeal Cert.KernelIdeal.Gen Cert.KernelIdeal.Value
open Idealize.ShloMosaic Idealize.ShloMosaic.TcCoe Idealize.SL.Sem

/-- The largest finite bf16 number. -/
abbrev big : EReal := Ideal.ofBits FTy.f32 0x7F7F0000#32

theorem big_eq : big = ((255 * (2 : ℝ) ^ (120 : ℤ) : ℝ) : EReal) := by
  simp [big, Ideal.ofBits, Ideal.ieee, -EReal.coe_mul]; norm_num

theorem fold_andi {α : Type} (S : Finset α) (f : α → BitVec 1) (h : Finset.fold IntOp.andi (1#1) f S = 1#1) : ∀ i ∈ S, f i = 1#1 := by
  classical
  induction S using Finset.induction_on with
  | empty => exact fun i hi => absurd hi (Finset.notMem_empty i)
  | insert a S ha ih =>
    rw [Finset.fold_insert ha] at h
    have hh : ∀ u v : BitVec 1, IntOp.andi u v = 1#1 → u = 1#1 ∧ v = 1#1 := by decide
    obtain ⟨h1, h2⟩ := hh _ _ h
    intro i hi
    rcases Finset.mem_insert.mp hi with rfl | hi
    · exact h1
    · exact ih h2 i hi

/-- The precondition says that every sample is at most the largest finite number in magnitude. -/
theorem finite_sample (a0 : FVec Ideal S176x480000 .bf16) (a1 : FVec Ideal S400x402 .fp8e4m3) (a2 : FVec Ideal S402 .f32)
    (a3 : FVec Ideal S128x201 .fp8e4m3) (a4 : FVec Ideal S128 .f32) [Cert.Pre_finite.Facts] (h : Cert.Pre_finite.fn (F := Ideal) a0 a1 a2 a3 a4 = fun _ => 1#1)
    (j : S176x480000.Idx) : max (a0 j) (-(a0 j)) ≤ big := by
  have h0 : Cert.Pre_finite.fn (F := Ideal) a0 a1 a2 a3 a4 (fun a => a.elim0) = 1#1 := by rw [h]
  have h1 := (Shape.foldl_filter_rowMajor_eq_fold _ _ _ _ _).symm.trans h0
  have hj := fold_andi _ _ h1 j (Finset.mem_filter.mpr ⟨Finset.mem_univ _, funext fun a => a.elim0⟩)
  by_contra hn
  have hd : BitVec.ofBool (decide (max (a0 j) (-(a0 j)) ≤ big)) = 1#1 := hj
  rw [decide_eq_false hn] at hd
  exact absurd hd (by decide)

/-- The paddings read the samples only: what holds of every sample holds of every padded sample. -/
theorem catL_all (P : EReal → Prop) (r : FVec Ideal S176x200 .bf16) (x : FVec Ideal S176x480000 .bf16) (hr : ∀ j, P (r j)) (hx : ∀ j, P (x j))
    (b : Fin 176) (q : Fin 480200) :
    P (concatenate S176x480200 1 [⟨S176x200, r⟩, ⟨S176x480000, x⟩] concatenates_S176x200_S176x480000_S176x480200_d1 (ix2 b q)) := by
  pointwise [hlo_ix]
  by_cases h : q.val < 200
  · rw [dif_pos h]; exact hr _
  · rw [dif_neg h]; exact hx _
theorem catR_all (P : EReal → Prop) (r : FVec Ideal S176x200 .bf16) (x : FVec Ideal S176x480200 .bf16) (hr : ∀ j, P (r j)) (hx : ∀ j, P (x j))
    (b : Fin 176) (q : Fin 480400) :
    P (concatenate S176x480400 1 [⟨S176x480200, x⟩, ⟨S176x200, r⟩] concatenates_S176x480200_S176x200_S176x480400_d1 (ix2 b q)) := by
  pointwise [hlo_ix]
  by_cases h : q.val < 480200
  · rw [dif_pos h]; exact hx _
  · rw [dif_neg h]; exact hr _
theorem rev_all {s : Shape} (axes : List (Fin s.rank)) (P : EReal → Prop) (x : s.Idx → EReal) (hx : ∀ j, P (x j)) (j : s.Idx) : P (Host.reverse axes x j) := hx _
theorem slice_all {s t : Shape} (offs : Fin s.rank → ℕ) (h : s.Slices offs t) (P : EReal → Prop) (x : s.Idx → EReal) (hx : ∀ j, P (x j)) (j : t.Idx) :
    P (extractStridedSlice t offs x h j) := hx _

theorem padK_all (P : EReal → Prop) (x : FVec Ideal S176x480000 .bf16) (hP : ∀ j, P (x j)) (b : Fin 176) (q : Fin 480400) : P (padK x (ix2 b q)) := by
  have hl : ∀ j, P (padL x j) := by
    intro j
    idx_vars j
    exact catL_all P _ x (rev_all _ P _ (slice_all _ _ P x hP)) hP j0 j1
  exact catR_all P _ _ (rev_all _ P _ (slice_all _ _ P _ hl)) hl b q

theorem pad_bound (x : FVec Ideal S176x480000 .bf16) (hx : ∀ j, max (x j) (-(x j)) ≤ big) (b : Fin 176) (p : Fin 480400) :
    max (padK x (ix2 b p)) (-(padK x (ix2 b p))) ≤ big :=
  padK_all (fun z => max z (-z) ≤ big) x hx b p

theorem half_f32 : Ideal.ofBits FTy.f32 0x3F000000#32 = ((1 / 2 : ℝ) : EReal) := by
  simp [Ideal.ofBits, Ideal.ieee, -EReal.coe_mul]; norm_num
theorem step_f32 : ∃ κ : ℝ, Ideal.ofBits FTy.f32 0x3C80ADFD#32 = (κ : EReal) := by
  refine ⟨8433149 * (2 : ℝ) ^ (-29 : ℤ), ?_⟩
  simp [Ideal.ofBits, Ideal.ieee, -EReal.coe_mul]

/-- The window lies between zero and one. -/
theorem win_range (n : Fin 400) : ∃ w : ℝ, 0 ≤ w ∧ w ≤ 1 ∧ winK (ix1 n) = (w : EReal) := by
  obtain ⟨κ, hκ⟩ := step_f32
  have h : winK (ix1 n) = Ideal.ofBits FTy.f32 0x3F000000#32 * (Ideal.ofBits FTy.f32 0x3F800000#32
      - Ideal.cos ((((BitVec.ofNat 32 n.val).toInt : ℝ) : EReal) * Ideal.ofBits FTy.f32 0x3C80ADFD#32)) := by
    pointwise [winK, hlo_ix]
    try rfl
  refine ⟨1 / 2 * (1 - Real.cos (((BitVec.ofNat 32 n.val).toInt : ℝ) * κ)), ?_, ?_, ?_⟩
  · have := Real.cos_le_one (((BitVec.ofNat 32 n.val).toInt : ℝ) * κ); linarith
  · have := Real.neg_one_le_cos (((BitVec.ofNat 32 n.val).toInt : ℝ) * κ); linarith
  · rw [h, half_f32, one_f32, hκ, ← EReal.coe_mul]
    show ((1 / 2 : ℝ) : EReal) * (((1 : ℝ) : EReal) - ((Real.cos _ : ℝ) : EReal)) = _
    rw [← EReal.coe_sub, ← EReal.coe_mul]

/-- Every frame of finite samples stays below `2 ^ 128` in magnitude. -/
theorem frame_bound (x : FVec Ideal S176x480000 .bf16) (hx : ∀ j, max (x j) (-(x j)) ≤ big) (b : Fin 176) (t : Fin 3000) (n : Fin 400) :
    max (frK x b t n) (-(frK x b t n)) ≤ (((2 : ℝ) ^ (128 : ℤ) : ℝ) : EReal) := by
  obtain ⟨w, hw0, hw1, hw⟩ := win_range n
  have hp := pad_bound x hx b ⟨160 * t.val + n.val, by omega⟩
  unfold frK
  rw [hw]
  generalize padK x (ix2 b ⟨160 * t.val + n.val, by omega⟩) = y at hp
  rw [big_eq] at hp
  obtain ⟨hp1, hp2⟩ := max_le_iff.mp hp
  induction y using EReal.rec with
  | bot => exact absurd (top_le_iff.mp hp2) (EReal.coe_ne_top _)
  | top => exact absurd (top_le_iff.mp hp1) (EReal.coe_ne_top _)
  | coe r =>
    rw [← EReal.coe_mul, ← EReal.coe_neg]
    rw [← EReal.coe_neg] at hp2
    have h1 : r ≤ 255 * (2 : ℝ) ^ (120 : ℤ) := EReal.coe_le_coe_iff.mp hp1
    have h2 : -r ≤ 255 * (2 : ℝ) ^ (120 : ℤ) := EReal.coe_le_coe_iff.mp hp2
    have hb : 255 * (2 : ℝ) ^ (120 : ℤ) ≤ (2 : ℝ) ^ (128 : ℤ) := by norm_num
    have hb0 : (0 : ℝ) ≤ (2 : ℝ) ^ (128 : ℤ) := by positivity
    generalize (2 : ℝ) ^ (128 : ℤ) = B at hb hb0
    have h1' : r ≤ B := h1.trans hb
    have h2' : -r ≤ B := h2.trans hb
    refine max_le (EReal.coe_le_coe_iff.mpr ?_) (EReal.coe_le_coe_iff.mpr ?_)
    · nlinarith
    · nlinarith

end Cert.Equation

end
-- ==== Proof.LogEq.lean ====
module

public import proofs.«01_k».proof.Proof.Range
public import proofs.«01_k».proof.Proof.FrameK
public import proofs.«01_k».proof.Proof.FrameR

@[expose] public section

set_option maxRecDepth 16384

noncomputable section

namespace Cert.Equation

open Cert.KernelIdeal.Value Cert.ReferenceIdeal.Value
open Cert.KernelIdeal (S176x480000 S400x402 S402 S128x201 S128)
open Idealize.ShloMosaic

/-- Both programs cut the same frames: they pad and window alike. -/
theorem frame_eq (a0 : FVec Ideal S176x480000 .bf16) (b : Fin 176) (t : Fin 3000) : frR a0 b t = frK a0 b t := rfl

theorem invLn2_eq : invLn2 = (((Real.log 2)⁻¹ : ℝ) : EReal) := IdealRules.named_const.ideal_named_scalar _ _ _ _ rfl
theorem log10_2_eq : log10_2 = ((Real.log 2 * (Real.log 10)⁻¹ : ℝ) : EReal) := IdealRules.named_const.ideal_named_scalar _ _ _ _ rfl
theorem invLn10R_eq : invLn10R = (((Real.log 10)⁻¹ : ℝ) : EReal) := IdealRules.named_const.ideal_named_scalar _ _ _ _ rfl

/-- `(1 / ln 2) · log10 2 = 1 / ln 10`. -/
theorem log_const (y : EReal) : y * invLn2 * log10_2 = y * invLn10R := by
  rw [invLn2_eq, log10_2_eq, invLn10R_eq, mul_assoc, ← EReal.coe_mul]
  have h : Real.log 2 ≠ 0 := (Real.log_pos (by norm_num)).ne'
  rw [← mul_assoc, inv_mul_cancel₀ h, one_mul]

/-- The two programs' spectra, mel energies and logarithms of a frame in range are the same. -/
theorem log_eq (a1 : FVec Ideal S400x402 .fp8e4m3) (a2 : FVec Ideal S402 .f32) (a3 : FVec Ideal S128x201 .fp8e4m3) (a4 : FVec Ideal S128 .f32)
    (v : Fin 400 → EReal) (hv : ∀ n, max (v n) (-(v n)) ≤ (((2 : ℝ) ^ (128 : ℤ) : ℝ) : EReal)) (g : Fin 128) :
    rowLog (fun f k => a1 (ix2 k ⟨f.val, by omega⟩)) (fun f k => a1 (ix2 k ⟨201 + f.val, by omega⟩)) (fun g f => a3 (ix2 g f))
        (fun f => a2 (ix1 ⟨f.val, by omega⟩)) (fun f => a2 (ix1 ⟨201 + f.val, by omega⟩)) (fun g => a4 (ix1 g)) v g
      = rowLogR (fun k f => a1 (ix2 k f)) (fun f => a2 (ix1 f)) (fun g f => a3 (ix2 g f)) (fun g => a4 (ix1 g)) v g := by
  have hs : ∀ f : Fin 402, (∑ k, a1 (ix2 k f) * rowCode v k) * rowScl v * a2 (ix1 f)
      = specR (fun k f => a1 (ix2 k f)) (fun f => a2 (ix1 f)) v f := by
    intro f
    unfold specR
    rw [scale_eq v hv]
    refine congrArg (fun z : EReal => z * sclR v * a2 (ix1 f)) (Finset.sum_congr rfl fun k _ => ?_)
    rw [code_eq v hv k, mul_comm]
  unfold rowLog rowLogR
  refine congrArg (fun z : EReal => Ideal.log (max (z * a4 (ix1 g)) _)) (Finset.sum_congr rfl fun f _ => ?_)
  dsimp only
  rw [hs ⟨f.val, by omega⟩, hs ⟨201 + f.val, by omega⟩]

theorem y_eq (a0 : FVec Ideal S176x480000 .bf16) (a1 : FVec Ideal S400x402 .fp8e4m3) (a2 : FVec Ideal S402 .f32) (a3 : FVec Ideal S128x201 .fp8e4m3)
    (a4 : FVec Ideal S128 .f32) (h0 : ∀ j, max (a0 j) (-(a0 j)) ≤ big) (b : Fin 176) (t : Fin 3000) (g : Fin 128) :
    yK a0 a1 a2 a3 a4 b t g = yA a0 a1 a2 a3 a4 b t g := by
  unfold yK yA
  rw [log_const, frame_eq, log_eq a1 a2 a3 a4 _ (frame_bound a0 h0 b t) g]

theorem four_f32 : Ideal.ofBits FTy.f32 0x40800000#32 = ((4 : ℝ) : EReal) := by
  simp [Ideal.ofBits, Ideal.ieee, -EReal.coe_mul]; norm_num

/-- Clamping commutes with `(· + 4) / 4`, which is monotone. -/
theorem clamp_eq (y t : EReal) :
    max (Ideal.div (y + Ideal.ofBits FTy.f32 0x40800000#32) (Ideal.ofBits FTy.f32 0x40800000#32))
        (Ideal.div (t + Ideal.ofBits FTy.f32 0x40800000#32) (Ideal.ofBits FTy.f32 0x40800000#32))
      = Ideal.div (max y t + Ideal.ofBits FTy.f32 0x40800000#32) (Ideal.ofBits FTy.f32 0x40800000#32) := by
  have hm : Monotone fun z : EReal => Ideal.div (z + Ideal.ofBits FTy.f32 0x40800000#32) (Ideal.ofBits FTy.f32 0x40800000#32) := by
    intro p q hpq
    have h4 : ((4 : ℝ) : EReal) ≠ 0 := by exact_mod_cast (by norm_num : (4 : ℝ) ≠ 0)
    dsimp only
    unfold Ideal.div
    rw [four_f32, if_neg h4, if_neg h4]
    refine mul_le_mul_of_nonneg_right (add_le_add_left hpq _) (EReal.inv_nonneg_of_nonneg ?_)
    exact_mod_cast (by norm_num : (0 : ℝ) ≤ 4)
  exact (hm.map_max).symm

end Cert.Equation

end
-- ==== Proof.Results.lean ====
module

public import proofs.«01_k».proof.Proof.KernelOut
public import proofs.«01_k».proof.Proof.RefOut
public import proofs.«01_k».proof.Proof.LogEq

@[expose] public section

set_option maxRecDepth 16384

noncomputable section

namespace Cert.Equation

open Cert.KernelIdeal.Value Cert.ReferenceIdeal.Value
open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- Every sample is at most the largest finite number in magnitude. -/
def Bounded (a : FVec Ideal Cert.KernelIdeal.S176x480000 .bf16) : Prop := ∀ j, max (a j) (-(a j)) ≤ big

/-- The two programs' arguments on a device are the same, and the samples are finite. -/
structure Same (c : Dev Cert.KernelIdeal.nD) : Prop where
  fin : Bounded (m ((c.tc : Thread Cert.KernelIdeal.nD Cert.KernelIdeal.τ).loc Cert.KernelIdeal.main_arg0))
  a0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4)

variable {m m'} {c : Dev Cert.KernelIdeal.nD} (h : Same m m' c)
include h

/-- The third result: the codes. -/
theorem codes_res : (Cert.ReferenceIdeal.Gen.dats m' 0 c).arrAt 8 Cert.ReferenceIdeal.cfg0.N
    = Cert.KernelIdeal.Gen.W11 m ρ c (Proc.devRef .tc Cert.KernelIdeal.main_v20_1) := by
  funext i
  idx_vars i
  refine (Cert.ReferenceIdeal.Value.codes_at m' c i0 i1 i2).trans (Eq.trans ?_ (Cert.KernelIdeal.Value.codes_at m ρ c i0 i1 i2).symm)
  rw [h.a0]
  exact (code_eq _ (frame_bound _ h.fin i0 i1) i2).symm

/-- The fourth result: the scales. -/
theorem scales_res : (Cert.ReferenceIdeal.Gen.dats m' 0 c).arrAt 9 Cert.ReferenceIdeal.cfg0.N
    = Cert.KernelIdeal.Gen.W11 m ρ c (Proc.devRef .tc Cert.KernelIdeal.main_v30) := by
  funext i
  idx_vars i
  refine (Cert.ReferenceIdeal.Value.scales_at m' c i0 i1).trans (Eq.trans ?_ (Cert.KernelIdeal.Value.scales_at m ρ c i0 i1).symm)
  rw [h.a0]
  exact (scale_eq _ (frame_bound _ h.fin i0 i1)).symm

/-- The log-mel values before the clamp. -/
theorem y_res (b : Fin 176) (t : Fin 3000) (g : Fin 128) : yN m' c b t g = yM m c b t g := by
  unfold yN yM
  rw [h.a0, h.a1, h.a2, h.a3, h.a4]
  exact (y_eq _ _ _ _ _ h.fin b t g).symm

/-- Their greatest. -/
theorem top_res : topR m' c = topK m ρ c :=
  eq_of_forall_ge_iff fun z => (topR_le m' c z).trans (Iff.trans (by simp only [y_res h]) (topK_le m ρ c z).symm)

/-- The first result: the clamped log-mel values. -/
theorem out_res : (Cert.ReferenceIdeal.Gen.dats m' 0 c).arrAt 6 Cert.ReferenceIdeal.cfg0.N
    = Cert.KernelIdeal.Gen.W11 m ρ c (Proc.devRef .tc Cert.KernelIdeal.main_v26) := by
  funext i
  idx_vars i
  refine (Cert.ReferenceIdeal.Value.out_at m' c i0 i1 i2).trans (Eq.trans ?_ (Cert.KernelIdeal.Value.out_at m ρ c i0 i1 i2).symm)
  rw [y_res h, top_res ρ h]
  exact (clamp_eq _ _).symm

/-- The second result: the edge columns of the first. -/
theorem edge_res : (Cert.ReferenceIdeal.Gen.dats m' 0 c).arrAt 7 Cert.ReferenceIdeal.cfg0.N
    = Cert.KernelIdeal.Gen.W11 m ρ c (Proc.devRef .tc Cert.KernelIdeal.main_v29) := by
  rw [edge_eq, out_res ρ h, end_edge]
  generalize Cert.KernelIdeal.Gen.W11 m ρ c (Proc.devRef .tc Cert.KernelIdeal.main_v26) = X
  rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_finite
public import proofs.«01_k».proof.Proof.KernelRun
public import proofs.«01_k».proof.Proof.RefRun
public import proofs.«01_k».proof.Proof.Results
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem Cert.Equation

/-- On finite samples the kernel and the reference run and end with equal results, all four of them. -/
theorem equal_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hfin hargs
  have hs : ∀ c, Same m m' c := fun c =>
    ⟨finite_sample _ _ _ _ _ (hfin c), (hargs c).1, (hargs c).2.1, (hargs c).2.2.1, (hargs c).2.2.2.1, (hargs c).2.2.2.2⟩
  refine ⟨fun c => Cert.KernelIdeal.Gen.W11 m g c (Proc.devRef .tc Cert.KernelIdeal.main_v26),
    fun c => Cert.KernelIdeal.Gen.W11 m g c (Proc.devRef .tc Cert.KernelIdeal.main_v29),
    fun c => Cert.KernelIdeal.Gen.W11 m g c (Proc.devRef .tc Cert.KernelIdeal.main_v20_1),
    fun c => Cert.KernelIdeal.Gen.W11 m g c (Proc.devRef .tc Cert.KernelIdeal.main_v30), Cert.KernelIdeal.Value.run m g, ?_⟩
  have hr := Cert.ReferenceIdeal.Value.run m' g'
  simp only [fun c => out_res g (hs c), fun c => edge_res g (hs c), fun c => codes_res g (hs c), fun c => scales_res g (hs c)] at hr
  exact hr

/-- The certificate: all four programs run without a fault, terminate and leave their arguments; the idealized programs replace two constants
    each by the numbers that they approximate; and on finite samples kernel and reference have equal results. -/
theorem claim : Cert.Claim := ⟨Cert.Kernel.Gen.facts, Cert.KernelIdeal.Gen.facts, Cert.ReferenceIdeal.Gen.facts, Cert.Reference.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, fun m ρ _ => Cert.Reference.Gen.frame m ρ,
  ⟨IdealRules.named_const.statement Cert.KernelIdeal.κ "inv_ln2" .f32 0x3FB8AA3B#32 (((Real.log 2)⁻¹ : ℝ) : EReal) rfl,
    IdealRules.named_const.statement Cert.KernelIdeal.κ "log10_2" .f32 0x3E9A209B#32 (((Real.log 2) * (Real.log 10)⁻¹ : ℝ) : EReal) rfl⟩,
  ⟨IdealRules.named_const.statement Cert.ReferenceIdeal.κ "inv_ln2" .f32 0x3FB8AA3B#32 (((Real.log 2)⁻¹ : ℝ) : EReal) rfl,
    IdealRules.named_const.statement Cert.ReferenceIdeal.κ "inv_ln10" .f32 0x3EDE5BD9#32 (((Real.log 10)⁻¹ : ℝ) : EReal) rfl⟩,
  equal_results⟩

end Cert.Proof

end
